-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x128 : Shape := ⟨3, ![1, 8, 128]⟩
abbrev S128x128 : Shape := ⟨2, ![128, 128]⟩
abbrev S128x100000 : Shape := ⟨2, ![128, 100000]⟩
abbrev S8x128 : Shape := ⟨2, ![8, 128]⟩
abbrev S100000x128 : Shape := ⟨2, ![100000, 128]⟩
abbrev S8x100000 : Shape := ⟨2, ![8, 100000]⟩
abbrev S12800x128 : Shape := ⟨2, ![12800, 128]⟩
abbrev S8x12800 : Shape := ⟨2, ![8, 12800]⟩
abbrev S8x102400 : Shape := ⟨2, ![8, 102400]⟩
abbrev S3x8x128 : Shape := ⟨3, ![3, 8, 128]⟩
abbrev S8x100x128 : Shape := ⟨3, ![8, 100, 128]⟩
abbrev S8 : Shape := ⟨1, ![8]⟩
abbrev S8x1 : Shape := ⟨2, ![8, 1]⟩

abbrev nBuf : Space → Nat
  | .hbm => 14
  | .vmem => 19
  | .smem => 0
  | _ => 0

abbrev bufTy : (tb : Table) → Fin (tcTables nBuf tb) → BufTy
  | .hbm, ⟨0, _⟩ => ⟨S1x8x128, .f32⟩
  | .hbm, ⟨1, _⟩ => ⟨S128x128, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S8x128, .f32⟩
  | .hbm, ⟨6, _⟩ => ⟨S100000x128, .f32⟩
  | .hbm, ⟨7, _⟩ => ⟨S100000x128, .f32⟩
  | .hbm, ⟨8, _⟩ => ⟨S100000x128, .f32⟩
  | .hbm, ⟨9, _⟩ => ⟨S8x128, .f32⟩
  | .hbm, ⟨10, _⟩ => ⟨S8x100000, .f32⟩
  | .hbm, ⟨11, _⟩ => ⟨S8x100000, .f32⟩
  | .hbm, ⟨12, _⟩ => ⟨S8x100000, .f32⟩
  | .hbm, ⟨13, _⟩ => ⟨S1x8x128, .f32⟩
  | .local _ .vmem, ⟨0, _⟩ => ⟨S8x128, .f32⟩
  | .local _ .vmem, ⟨1, _⟩ => ⟨S128x128, .f32⟩
  | .local _ .vmem, ⟨2, _⟩ => ⟨S12800x128, .f32⟩
  | .local _ .vmem, ⟨3, _⟩ => ⟨S12800x128, .f32⟩
  | .local _ .vmem, ⟨4, _⟩ => ⟨S12800x128, .f32⟩
  | .local _ .vmem, ⟨5, _⟩ => ⟨S12800x128, .f32⟩
  | .local _ .vmem, ⟨6, _⟩ => ⟨S12800x128, .f32⟩
  | .local _ .vmem, ⟨7, _⟩ => ⟨S12800x128, .f32⟩
  | .local _ .vmem, ⟨8, _⟩ => ⟨S8x128, .f32⟩
  | .local _ .vmem, ⟨9, _⟩ => ⟨S8x12800, .f32⟩
  | .local _ .vmem, ⟨10, _⟩ => ⟨S8x12800, .f32⟩
  | .local _ .vmem, ⟨11, _⟩ => ⟨S8x12800, .f32⟩
  | .local _ .vmem, ⟨12, _⟩ => ⟨S8x12800, .f32⟩
  | .local _ .vmem, ⟨13, _⟩ => ⟨S8x12800, .f32⟩
  | .local _ .vmem, ⟨14, _⟩ => ⟨S8x12800, .f32⟩
  | .local _ .vmem, ⟨15, _⟩ => ⟨S8x102400, .f32⟩
  | .local _ .vmem, ⟨16, _⟩ => ⟨S8x102400, .f32⟩
  | .local _ .vmem, ⟨17, _⟩ => ⟨S8x102400, .f32⟩
  | .local _ .vmem, ⟨18, _⟩ => ⟨S3x8x128, .f32⟩
  | _, _ => ⟨S1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_off1 (i : grid0.Coords) : Fin 2 → Nat :=
  let c0_8 : Index := 0#32
  let arg1 : BitVec 32 := BitVec.ofNat 32 (i 1).val
  let c12800_i32 : BitVec 32 := 12800#32
  let v0 : BitVec 32 := Scalar.muli arg1 c12800_i32
  let v18 : Index := Scalar.indexCast v0
  ![0, v18.toNat]
def k0_cond9 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_4 : BitVec 32 := 0#32
  let v11 : BitVec 1 := Scalar.cmpi .ne v10 c0_i32_4
  v11

def k0_off2 (i : grid0.Coords) : Fin 2 → Nat :=
  let c0_8 : Index := 0#32
  let arg1 : BitVec 32 := BitVec.ofNat 32 (i 1).val
  let c12800_i32 : BitVec 32 := 12800#32
  let v0 : BitVec 32 := Scalar.muli arg1 c12800_i32
  let v18 : Index := Scalar.indexCast v0
  ![0, v18.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S12800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S12800x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S12800x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x12800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x12800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x12800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S1x8x128 : Shape := ⟨3, ![1, 8, 128]⟩
abbrev S128x128 : Shape := ⟨2, ![128, 128]⟩
abbrev S128x100000 : Shape := ⟨2, ![128, 100000]⟩
abbrev S1x8x100000 : Shape := ⟨3, ![1, 8, 100000]⟩
abbrev S_ : Shape := ⟨0, ![]⟩
abbrev S1x8 : Shape := ⟨2, ![1, 8]⟩
abbrev S1x8x1 : Shape := ⟨3, ![1, 8, 1]⟩
abbrev S8x100000 : Shape := ⟨2, ![8, 100000]⟩
abbrev S8 : Shape := ⟨1, ![8]⟩
abbrev S8x1 : Shape := ⟨2, ![8, 1]⟩

abbrev nBuf : Space → Nat
  | .hbm => 70
  | .vmem => 0
  | .smem => 0
  | _ => 0

abbrev bufTy : (tb : Table) → Fin (tcTables nBuf tb) → BufTy
  | .hbm, ⟨0, _⟩ => ⟨S1x8x128, .f32⟩
  | .hbm, ⟨1, _⟩ => ⟨S128x128, .f32⟩
  | .hbm, ⟨2, _⟩ => ⟨S128x100000, .f32⟩
  | .hbm, ⟨3, _⟩ => ⟨S128x100000, .f32⟩
  | .hbm, ⟨4, _⟩ => ⟨S128x100000, .f32⟩
  | .hbm, ⟨5, _⟩ => ⟨S1x8x128, .f32⟩
  | .hbm, ⟨6, _⟩ => ⟨S1x8x128, .f32⟩
  | .hbm, ⟨7, _⟩ => ⟨S1x8x100000, .f32⟩
  | .hbm, ⟨8, _⟩ => ⟨S_, .f32⟩
  | .hbm, ⟨9, _⟩ => ⟨S1x8, .f32⟩
  | .hbm, ⟨10, _⟩ => ⟨S_, .f32⟩
  | .hbm, ⟨11, _⟩ => ⟨S1x8, .f32⟩
  | .hbm, ⟨12, _⟩ => ⟨S1x8, .f32⟩
  | .hbm, ⟨13, _⟩ => ⟨S1x8x1, .f32⟩
  | .hbm, ⟨14, _⟩ => ⟨S1x8x100000, .f32⟩
  | .hbm, ⟨15, _⟩ => ⟨S1x8x100000, .f32⟩
  | .hbm, ⟨16, _⟩ => ⟨S1x8x100000, .f32⟩
  | .hbm, ⟨17, _⟩ => ⟨S_, .f32⟩
  | .hbm, ⟨18, _⟩ => ⟨S1x8, .f32⟩
  | .hbm, ⟨19, _⟩ => ⟨S1x8x1, .f32⟩
  | .hbm, ⟨20, _⟩ => ⟨S1x8x100000, .f32⟩
  | .hbm, ⟨21, _⟩ => ⟨S1x8x100000, .f32⟩
  | .hbm, ⟨22, _⟩ => ⟨S1x8x100000, .f32⟩
  | .hbm, ⟨23, _⟩ => ⟨S_, .f32⟩
  | .hbm, ⟨24, _⟩ => ⟨S1x8, .f32⟩
  | .hbm, ⟨25, _⟩ => ⟨S_, .f32⟩
  | .hbm, ⟨26, _⟩ => ⟨S1x8, .f32⟩
  | .hbm, ⟨27, _⟩ => ⟨S1x8, .f32⟩
  | .hbm, ⟨28, _⟩ => ⟨S1x8x1, .f32⟩
  | .hbm, ⟨29, _⟩ => ⟨S1x8x100000, .f32⟩
  | .hbm, ⟨30, _⟩ => ⟨S1x8x100000, .f32⟩
  | .hbm, ⟨31, _⟩ => ⟨S1x8x100000, .f32⟩
  | .hbm, ⟨32, _⟩ => ⟨S_, .f32⟩
  | .hbm, ⟨33, _⟩ => ⟨S1x8, .f32⟩
  | .hbm, ⟨34, _⟩ => ⟨S1x8x1, .f32⟩
  | .hbm, ⟨35, _⟩ => ⟨S1x8x100000, .f32⟩
  | .hbm, ⟨36, _⟩ => ⟨S1x8x100000, .f32⟩
  | .hbm, ⟨37, _⟩ => ⟨S1x8x100000, .f32⟩
  | .hbm, ⟨38, _⟩ => ⟨S_, .f32⟩
  | .hbm, ⟨39, _⟩ => ⟨S1x8, .f32⟩
  | .hbm, ⟨40, _⟩ => ⟨S_, .f32⟩
  | .hbm, ⟨41, _⟩ => ⟨S1x8, .f32⟩
  | .hbm, ⟨42, _⟩ => ⟨S1x8, .f32⟩
  | .hbm, ⟨43, _⟩ => ⟨S1x8x1, .f32⟩
  | .hbm, ⟨44, _⟩ => ⟨S1x8x100000, .f32⟩
  | .hbm, ⟨45, _⟩ => ⟨S1x8x100000, .f32⟩
  | .hbm, ⟨46, _⟩ => ⟨S1x8x100000, .f32⟩
  | .hbm, ⟨47, _⟩ => ⟨S_, .f32⟩
  | .hbm, ⟨48, _⟩ => ⟨S1x8, .f32⟩
  | .hbm, ⟨49, _⟩ => ⟨S1x8x1, .f32⟩
  | .hbm, ⟨50, _⟩ => ⟨S1x8x100000, .f32⟩
  | .hbm, ⟨51, _⟩ => ⟨S1x8x100000, .f32⟩
  | .hbm, ⟨52, _⟩ => ⟨S8x100000, .f32⟩
  | .hbm, ⟨53, _⟩ => ⟨S8x100000, .f32⟩
  | .hbm, ⟨54, _⟩ => ⟨S8x100000, .f32⟩
  | .hbm, ⟨55, _⟩ => ⟨S_, .f32⟩
  | .hbm, ⟨56, _⟩ => ⟨S8, .f32⟩
  | .hbm, ⟨57, _⟩ => ⟨S8x1, .f32⟩
  | .hbm, ⟨58, _⟩ => ⟨S8x100000, .f32⟩
  | .hbm, ⟨59, _⟩ => ⟨S8x100000, .f32⟩
  | .hbm, ⟨60, _⟩ => ⟨S_, .f32⟩
  | .hbm, ⟨61, _⟩ => ⟨S8, .f32⟩
  | .hbm, ⟨62, _⟩ => ⟨S8x1, .f32⟩
  | .hbm, ⟨63, _⟩ => ⟨S8x100000, .f32⟩
  | .hbm, ⟨64, _⟩ => ⟨S8x100000, .f32⟩
  | .hbm, ⟨65, _⟩ => ⟨S_, .f32⟩
  | .hbm, ⟨66, _⟩ => ⟨S8, .f32⟩
  | .hbm, ⟨67, _⟩ => ⟨S8x1, .f32⟩
  | .hbm, ⟨68, _⟩ => ⟨S8x100000, .f32⟩
  | .hbm, ⟨69, _⟩ => ⟨S8x100000, .f32⟩
  | _, _ => ⟨S1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Proof.Body.lean ====
/-
  The kernel's body, run once at symbolic operands in each of its four situations: the first grid point, the later
  points of the first phase before the last tile, the last tile of the first phase, and the second phase. Each theorem
  names what every buffer the body touches holds afterwards, as a function of what the buffers held before:
  `VecWindow.put X off size w` is `X` with `w` stored over one rectangle, `VecWindow.window X off size` the
  rectangle's contents. Everything is stated for any float values.
-/
module

public import proofs.«01_k».proof.Defs
public import proofs.«01_k».proof.Proof.Gen.KernelIdeal
public import proofs.«01_k».proof.Proof.Gen.KernelIdeal.Skeleton
public import Idealize.ShloMosaic.Lib.Tactic
public import Idealize.ShloMosaic.Lib.Pipeline.Kit
public import Idealize.ShloMosaic.Lib.VecWindow

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Core `c` holds the whole memref `M` at contents `X`. -/
abbrev at' (c : Dev nD) {sp : Space} {S : Shape} {e : EltTy} (M : Memref sig .tc sp S e) (X : S.Idx → Elt F e) : sProp 𝕄 :=
  owns (c : Thread nD τ) M fullShare X

/-- The first head's part of the lane sums. -/
abbrev lane0 (S : S3x8x128.Idx → Elt F .f32) : S1x8x128.Idx → Elt F .f32 :=
  VecWindow.window S ![0, 0, 0] S1x8x128.size inb_S3x8x128_S1x8x128_0_0_0

/-- The second head's part of the lane sums. -/
abbrev lane1 (S : S3x8x128.Idx → Elt F .f32) : S1x8x128.Idx → Elt F .f32 :=
  VecWindow.window S ![1, 0, 0] S1x8x128.size inb_S3x8x128_S1x8x128_1_0_0

/-- The third head's part of the lane sums. -/
abbrev lane2 (S : S3x8x128.Idx → Elt F .f32) : S1x8x128.Idx → Elt F .f32 :=
  VecWindow.window S ![2, 0, 0] S1x8x128.size inb_S3x8x128_S1x8x128_2_0_0

/-- The lane sums with the three heads' parts replaced. -/
abbrev lanes (S : S3x8x128.Idx → Elt F .f32) (a b d : S1x8x128.Idx → Elt F .f32) : S3x8x128.Idx → Elt F .f32 :=
  VecWindow.put (VecWindow.put (VecWindow.put S ![0, 0, 0] S1x8x128.size a) ![1, 0, 0] S1x8x128.size b) ![2, 0, 0] S1x8x128.size d

/-- One tile of exponentials stored into a row buffer at the tile's place. -/
abbrev tile (i : grid0.Coords) (X : S8x102400.Idx → Elt F .f32) (w : S8x12800.Idx → Elt F .f32) : S8x102400.Idx → Elt F .f32 :=
  VecWindow.put X (k0_off1 i) S8x12800.size w

/-- The body's test that the tile is not the last. -/
abbrev early (i : grid0.Coords) : Prop :=
  Scalar.cmpi .ne (Scalar.extui (Scalar.cmpi .slt (BitVec.ofNat 32 (i 1).val) 7#32) : BitVec 32) 0#32 = 1#1

/-- The body's test that the tile is the last, which overhangs the rows. -/
abbrev last (i : grid0.Coords) : Prop :=
  Scalar.cmpi .ne (Scalar.extui (Scalar.cmpi .eq (BitVec.ofNat 32 (i 1).val) 7#32) : BitVec 32) 0#32 = 1#1

/-- Reading through a rectangle is taking the window of what is read. -/
theorem readAt_window {S : Shape} {e : EltTy} (M : Memref sig .tc .vmem S e) (f : M.view.ty.Contents (Elt F)) (X : S.Idx → Elt F e)
    (hX : M.view.read (Elt F) f = X) {off size : Fin S.rank → ℕ} (inb : ∀ a, off a + size a ≤ S.size a) :
    M.view.readAt (Elt F) (Rect.unit off size inb).toLoadRect f = VecWindow.window X off size inb := by
  subst hX; rfl

/-- Reading through the whole rectangle is reading. -/
theorem readAt_whole {S : Shape} {e : EltTy} (M : Memref sig .tc .vmem S e) (f : M.view.ty.Contents (Elt F)) (X : S.Idx → Elt F e)
    (hX : M.view.read (Elt F) f = X) {off : Fin S.rank → ℕ} (inb : ∀ a, off a + S.size a ≤ S.size a) :
    M.view.readAt (Elt F) (Rect.unit off S.size inb).toLoadRect f = X := by
  rw [View.readAt_full, hX]

/-- One store over a rectangle puts the stored values there. -/
theorem put_one {S : Shape} {e : EltTy} (M : Memref sig .tc .vmem S e) (f : M.view.ty.Contents (Elt F)) (X : S.Idx → Elt F e)
    (hX : M.view.read (Elt F) f = X) {off size : Fin S.rank → ℕ} (inb : ∀ a, off a + size a ≤ S.size a)
    (w : (Rect.unit off size inb).shape.Idx → Elt F e) :
    M.view.read (Elt F) (M.view.writes (Elt F) f [⟨Rect.unit off size inb, w⟩]) = VecWindow.put X off size w := by
  rw [View.read_writes_cons_put _ _ inb w [] rfl]
  exact congrArg (fun Z => VecWindow.put Z off size w) hX

/-- A load stated over stored pieces alone is a window of what the pieces leave. -/
theorem readCov_window {S : Shape} {e : EltTy} (M : Memref sig .tc .vmem S e) (L : List (View.Piece (Elt F) S e))
    {off size : Fin S.rank → ℕ} (inb : ∀ a, off a + size a ≤ S.size a) :
    M.view.readCov L (Rect.unit off size inb).toLoadRect
      = VecWindow.window (M.view.read (Elt F) (M.view.writes (Elt F) M.view.junk L)) off size inb := rfl

/-- Reading after stores is putting the newest piece over what the older ones leave. -/
theorem read_cons {S : Shape} {e : EltTy} (M : Memref sig .tc .vmem S e) (f : M.view.ty.Contents (Elt F))
    {off size : Fin S.rank → ℕ} (inb : ∀ a, off a + size a ≤ S.size a) (w : (Rect.unit off size inb).shape.Idx → Elt F e)
    (L : List (View.Piece (Elt F) S e)) :
    M.view.read (Elt F) (M.view.writes (Elt F) f (⟨Rect.unit off size inb, w⟩ :: L))
      = VecWindow.put (M.view.read (Elt F) (M.view.writes (Elt F) f L)) off size w :=
  View.read_writes_cons_put _ _ inb w L rfl

/-- Putting over everything leaves the stored values alone. -/
theorem put_all (X w : S3x8x128.Idx → Elt F .f32) : VecWindow.put X ![0, 0, 0] ![3, 8, 128] w = w := by
  funext y
  unfold VecWindow.put
  rw [dif_pos (fun a => ⟨by fin_cases a <;> exact Nat.zero_le _, by fin_cases a <;> exact (Nat.zero_add _).symm ▸ (y _).isLt⟩)]
  exact congrArg w (funext fun a => Fin.ext (by fin_cases a <;> exact Nat.sub_zero _))

/-- Storing the first head's lane sums leaves the second's. -/
theorem window_second (X : S3x8x128.Idx → Elt F .f32) (a : S1x8x128.Idx → Elt F .f32) :
    VecWindow.window (VecWindow.put X ![0, 0, 0] ![1, 8, 128] a) ![1, 0, 0] ![1, 8, 128] inb_S3x8x128_S1x8x128_1_0_0 = lane1 X :=
  VecWindow.window_put_of_disjoint X ![0, 0, 0] ![1, 8, 128] ![1, 0, 0] ![1, 8, 128] _ a (0 : Fin 3) (.inr (by decide))

/-- Storing the first two heads' parts leaves the third head's as it was. -/
theorem window_third (X : S3x8x128.Idx → Elt F .f32) (a b : S1x8x128.Idx → Elt F .f32) :
    VecWindow.window (VecWindow.put (VecWindow.put X ![0, 0, 0] ![1, 8, 128] a) ![1, 0, 0] ![1, 8, 128] b) ![2, 0, 0] ![1, 8, 128]
      inb_S3x8x128_S1x8x128_2_0_0 = lane2 X :=
  (VecWindow.window_put_of_disjoint (VecWindow.put X ![0, 0, 0] ![1, 8, 128] a) ![1, 0, 0] ![1, 8, 128] ![2, 0, 0] ![1, 8, 128] _ b (0 : Fin 3) (.inr (by decide))).trans
    (VecWindow.window_put_of_disjoint X ![0, 0, 0] ![1, 8, 128] ![2, 0, 0] ![1, 8, 128] _ a (0 : Fin 3) (.inr (by decide)))

section Runs

variable (c : Dev nD) (i : grid0.Coords)
    (M2 : Memref sig .tc .vmem S8x128 .f32) (hM2 : M2.IsWhole) (M3 : Memref sig .tc .vmem S128x128 .f32) (hM3 : M3.IsWhole)
    (M4 : Memref sig .tc .vmem S12800x128 .f32) (hM4 : M4.IsWhole) (M5 : Memref sig .tc .vmem S12800x128 .f32) (hM5 : M5.IsWhole)
    (M6 : Memref sig .tc .vmem S12800x128 .f32) (hM6 : M6.IsWhole) (M7 : Memref sig .tc .vmem S8x128 .f32) (hM7 : M7.IsWhole)
    (M8 : Memref sig .tc .vmem S8x12800 .f32) (hM8 : M8.IsWhole) (M9 : Memref sig .tc .vmem S8x12800 .f32) (hM9 : M9.IsWhole)
    (M10 : Memref sig .tc .vmem S8x12800 .f32) (hM10 : M10.IsWhole)
    (M11 : Memref sig .tc .vmem S8x102400 .f32) (hM11 : M11.IsWhole) (M12 : Memref sig .tc .vmem S8x102400 .f32) (hM12 : M12.IsWhole)
    (M13 : Memref sig .tc .vmem S8x102400 .f32) (hM13 : M13.IsWhole) (M14 : Memref sig .tc .vmem S3x8x128 .f32) (hM14 : M14.IsWhole)

/-- THE FIRST POINT: the small output is computed, the lane sums start from zero, and the first tile goes as a middle tile. -/
theorem run_first (h1 : k0_cond1 i = 1#1) (h2 : k0_cond2 i = 1#1) (h9 : ¬ k0_cond9 i = 1#1) (h3 : early i) (h4 : ¬ last i)
    (X2 : S8x128.Idx → Elt F .f32) (X4 X5 X6 : S12800x128.Idx → Elt F .f32) (X3 : S128x128.Idx → Elt F .f32) (X7 : S8x128.Idx → Elt F .f32)
    (X11 X12 X13 : S8x102400.Idx → Elt F .f32) (S : S3x8x128.Idx → Elt F .f32)
    (Q : PUnit → sProp 𝕄) :
    iprop(at' c M2 X2 ∗ at' c M4 X4 ∗ at' c M5 X5 ∗ at' c M6 X6 ∗ at' c M3 X3 ∗ at' c M7 X7 ∗ at' c M11 X11 ∗ at' c M12 X12 ∗ at' c M13 X13 ∗ at' c M14 S
      ∗ (iprop(at' c M2 X2
          ∗ at' c M4 X4
          ∗ at' c M5 X5
          ∗ at' c M6 X6
          ∗ at' c M3 X3
          ∗ at' c M7 (k0_pay1 X2 X3)
          ∗ at' c M11 (tile i X11 (k0_pay9 X2 X4))
          ∗ at' c M12 (tile i X12 (k0_pay13 X2 X5))
          ∗ at' c M13 (tile i X13 (k0_pay4 (k0_pay16 X2 X6)))
          ∗ at' c M14 (lanes (F := F) k0_pay2 (k0_pay10 X2 X4 (lane0 k0_pay2)) (k0_pay14 X2 X5 (lane1 k0_pay2)) (k0_pay5 (k0_pay16 X2 X6) (lane2 k0_pay2)))) -∗ Q ⟨⟩))
    ⊢ wp frame (wpE (defs₀ (F := F)) Variants.none c none) Set.univ
        (cc0__body i M2 hM2 M3 hM3 M4 hM4 M5 hM5 M6 hM6 M7 hM7 M8 hM8 M9 hM9 M10 hM10 M11 hM11 M12 hM12 M13 hM13 M14 hM14) Q := by
  unfold at' owns
  iintro ⟨⟨%f2, %e2, H2⟩, ⟨%f4, %e4, H4⟩, ⟨%f5, %e5, H5⟩, ⟨%f6, %e6, H6⟩, ⟨%f3, %e3, H3⟩, ⟨%f7, %e7, H7⟩, ⟨%f11, %e11, H11⟩, ⟨%f12, %e12, H12⟩, ⟨%f13, %e13, H13⟩, ⟨%f14, %e14, H14⟩, Hk⟩
  sl_exec
  sl_step
  iapply Hk
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H3]
  · iexists _; isplitr; swap; · iexact H3
    ipureintro; exact e3
  isplitl [H7]
  · iexists _; isplitr; swap; · iexact H7
    ipureintro; rw [View.read_writes_full, readAt_whole _ _ _ e2, readAt_whole _ _ _ e3]
  isplitl [H11]
  · iexists _; isplitr; swap; · iexact H11
    ipureintro; rw [put_one _ _ _ e11, readAt_whole _ _ _ e2, readAt_whole _ _ _ e4]
  isplitl [H12]
  · iexists _; isplitr; swap; · iexact H12
    ipureintro; rw [put_one _ _ _ e12, readAt_whole _ _ _ e2, readAt_whole _ _ _ e5]
  isplitl [H13]
  · iexists _; isplitr; swap; · iexact H13
    ipureintro; rw [put_one _ _ _ e13, show run_first.sl.r c M2 M6 f2 f6 = k0_pay16 X2 X6 from (by delta run_first.sl.r; rw [readAt_whole _ _ _ e2, readAt_whole _ _ _ e6])]
  iexists _; isplitr; swap; · iexact H14
  ipureintro; delta run_first.sl.v56_2 run_first.sl.H14_3 run_first.sl.v56_1 run_first.sl.H14_2 run_first.sl.v56 run_first.sl.H14_1 run_first.sl.r
  simp only [readCov_window, read_cons, put_all, readAt_whole _ _ _ e2, readAt_whole _ _ _ e4, readAt_whole _ _ _ e5, readAt_whole _ _ _ e6]
  rw [window_second, window_third, put_all, put_all]

/-- FIRST PHASE, A MIDDLE TILE: the tile's exponentials are stored, and every lane sum grows by the tile's. -/
theorem run_middle (h1 : ¬ k0_cond1 i = 1#1) (h2 : k0_cond2 i = 1#1) (h9 : ¬ k0_cond9 i = 1#1) (h3 : early i) (h4 : ¬ last i)
    (X2 : S8x128.Idx → Elt F .f32) (X4 X5 X6 : S12800x128.Idx → Elt F .f32)
    (X11 X12 X13 : S8x102400.Idx → Elt F .f32) (S : S3x8x128.Idx → Elt F .f32)
    (Q : PUnit → sProp 𝕄) :
    iprop(at' c M2 X2 ∗ at' c M4 X4 ∗ at' c M5 X5 ∗ at' c M6 X6 ∗ at' c M11 X11 ∗ at' c M12 X12 ∗ at' c M13 X13 ∗ at' c M14 S
      ∗ (iprop(at' c M2 X2
          ∗ at' c M4 X4
          ∗ at' c M5 X5
          ∗ at' c M6 X6
          ∗ at' c M11 (tile i X11 (k0_pay9 X2 X4))
          ∗ at' c M12 (tile i X12 (k0_pay13 X2 X5))
          ∗ at' c M13 (tile i X13 (k0_pay4 (k0_pay16 X2 X6)))
          ∗ at' c M14 (lanes S (k0_pay10 X2 X4 (lane0 S)) (k0_pay14 X2 X5 (lane1 S)) (k0_pay5 (k0_pay16 X2 X6) (lane2 S)))) -∗ Q ⟨⟩))
    ⊢ wp frame (wpE (defs₀ (F := F)) Variants.none c none) Set.univ
        (cc0__body i M2 hM2 M3 hM3 M4 hM4 M5 hM5 M6 hM6 M7 hM7 M8 hM8 M9 hM9 M10 hM10 M11 hM11 M12 hM12 M13 hM13 M14 hM14) Q := by
  unfold at' owns
  iintro ⟨⟨%f2, %e2, H2⟩, ⟨%f4, %e4, H4⟩, ⟨%f5, %e5, H5⟩, ⟨%f6, %e6, H6⟩, ⟨%f11, %e11, H11⟩, ⟨%f12, %e12, H12⟩, ⟨%f13, %e13, H13⟩, ⟨%f14, %e14, H14⟩, Hk⟩
  sl_exec
  sl_step
  iapply Hk
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H11]
  · iexists _; isplitr; swap; · iexact H11
    ipureintro; rw [put_one _ _ _ e11, readAt_whole _ _ _ e2, readAt_whole _ _ _ e4]
  isplitl [H12]
  · iexists _; isplitr; swap; · iexact H12
    ipureintro; rw [put_one _ _ _ e12, readAt_whole _ _ _ e2, readAt_whole _ _ _ e5]
  isplitl [H13]
  · iexists _; isplitr; swap; · iexact H13
    ipureintro; rw [put_one _ _ _ e13, show run_middle.sl.r c M2 M6 f2 f6 = k0_pay16 X2 X6 from (by delta run_middle.sl.r; rw [readAt_whole _ _ _ e2, readAt_whole _ _ _ e6])]
  iexists _; isplitr; swap; · iexact H14
  ipureintro; delta run_middle.sl.v56_1 run_middle.sl.v56 run_middle.sl.r; rw [View.read_writes_cons_put _ _ _ _ _ rfl, View.read_writes_cons_put _ _ _ _ _ rfl, put_one _ _ _ e14,
      readAt_window _ _ _ e14, readAt_window _ _ _ e14, readAt_window _ _ _ e14, readAt_whole _ _ _ e2,
      readAt_whole _ _ _ e4, readAt_whole _ _ _ e5, readAt_whole _ _ _ e6]

/-- FIRST PHASE, THE LAST TILE: as a middle tile, with the columns past the rows' end left out of the lane sums. -/
theorem run_last (h1 : ¬ k0_cond1 i = 1#1) (h2 : k0_cond2 i = 1#1) (h9 : ¬ k0_cond9 i = 1#1) (h3 : ¬ early i) (h4 : last i)
    (X2 : S8x128.Idx → Elt F .f32) (X4 X5 X6 : S12800x128.Idx → Elt F .f32)
    (X11 X12 X13 : S8x102400.Idx → Elt F .f32) (S : S3x8x128.Idx → Elt F .f32)
    (Q : PUnit → sProp 𝕄) :
    iprop(at' c M2 X2 ∗ at' c M4 X4 ∗ at' c M5 X5 ∗ at' c M6 X6 ∗ at' c M11 X11 ∗ at' c M12 X12 ∗ at' c M13 X13 ∗ at' c M14 S
      ∗ (iprop(at' c M2 X2
          ∗ at' c M4 X4
          ∗ at' c M5 X5
          ∗ at' c M6 X6
          ∗ at' c M11 (tile i X11 (k0_pay9 X2 X4))
          ∗ at' c M12 (tile i X12 (k0_pay13 X2 X5))
          ∗ at' c M13 (tile i X13 (k0_pay4 (k0_pay16 X2 X6)))
          ∗ at' c M14 (lanes S (k0_pay11 (BitVec.ofNat 32 (i 1).val) X2 X4 (lane0 S)) (k0_pay15 (BitVec.ofNat 32 (i 1).val) X2 X5 (lane1 S)) (k0_pay6 i (k0_pay16 X2 X6) (lane2 S)))) -∗ Q ⟨⟩))
    ⊢ wp frame (wpE (defs₀ (F := F)) Variants.none c none) Set.univ
        (cc0__body i M2 hM2 M3 hM3 M4 hM4 M5 hM5 M6 hM6 M7 hM7 M8 hM8 M9 hM9 M10 hM10 M11 hM11 M12 hM12 M13 hM13 M14 hM14) Q := by
  unfold at' owns
  iintro ⟨⟨%f2, %e2, H2⟩, ⟨%f4, %e4, H4⟩, ⟨%f5, %e5, H5⟩, ⟨%f6, %e6, H6⟩, ⟨%f11, %e11, H11⟩, ⟨%f12, %e12, H12⟩, ⟨%f13, %e13, H13⟩, ⟨%f14, %e14, H14⟩, Hk⟩
  sl_exec
  sl_step
  iapply Hk
  isplitl [H2]
  · iexists _; isplitr; swap; · iexact H2
    ipureintro; exact e2
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H11]
  · iexists _; isplitr; swap; · iexact H11
    ipureintro; rw [put_one _ _ _ e11, readAt_whole _ _ _ e2, readAt_whole _ _ _ e4]
  isplitl [H12]
  · iexists _; isplitr; swap; · iexact H12
    ipureintro; rw [put_one _ _ _ e12, readAt_whole _ _ _ e2, readAt_whole _ _ _ e5]
  isplitl [H13]
  · iexists _; isplitr; swap; · iexact H13
    ipureintro; rw [put_one _ _ _ e13, show run_last.sl.r c M2 M6 f2 f6 = k0_pay16 X2 X6 from (by delta run_last.sl.r; rw [readAt_whole _ _ _ e2, readAt_whole _ _ _ e6])]
  iexists _; isplitr; swap; · iexact H14
  ipureintro; delta run_last.sl.v64_1 run_last.sl.v64 run_last.sl.r; rw [View.read_writes_cons_put _ _ _ _ _ rfl, View.read_writes_cons_put _ _ _ _ _ rfl, put_one _ _ _ e14,
      readAt_window _ _ _ e14, readAt_window _ _ _ e14, readAt_window _ _ _ e14, readAt_whole _ _ _ e2,
      readAt_whole _ _ _ e4, readAt_whole _ _ _ e5, readAt_whole _ _ _ e6]

/-- SECOND PHASE: each head's output block is its tile of exponentials times the inverse of its row sums; nothing else
    changes. -/
theorem run_second (h1 : ¬ k0_cond1 i = 1#1) (h2 : ¬ k0_cond2 i = 1#1) (h9 : k0_cond9 i = 1#1)
    (X8 X9 X10 : S8x12800.Idx → Elt F .f32) (X11 X12 X13 : S8x102400.Idx → Elt F .f32) (S : S3x8x128.Idx → Elt F .f32)
    (Q : PUnit → sProp 𝕄) :
    iprop(at' c M8 X8 ∗ at' c M9 X9 ∗ at' c M10 X10 ∗ at' c M11 X11 ∗ at' c M12 X12 ∗ at' c M13 X13 ∗ at' c M14 S
      ∗ (iprop(at' c M8 (k0_pay17 (lane0 S) (VecWindow.window X11 (k0_off2 i) S8x12800.size (k0_off2_inb i h9)))
          ∗ at' c M9 (k0_pay18 (lane1 S) (VecWindow.window X12 (k0_off2 i) S8x12800.size (k0_off2_inb i h9)))
          ∗ at' c M10 (k0_pay19 (lane2 S) (VecWindow.window X13 (k0_off2 i) S8x12800.size (k0_off2_inb i h9)))
          ∗ at' c M11 X11
          ∗ at' c M12 X12
          ∗ at' c M13 X13
          ∗ at' c M14 S) -∗ Q ⟨⟩))
    ⊢ wp frame (wpE (defs₀ (F := F)) Variants.none c none) Set.univ
        (cc0__body i M2 hM2 M3 hM3 M4 hM4 M5 hM5 M6 hM6 M7 hM7 M8 hM8 M9 hM9 M10 hM10 M11 hM11 M12 hM12 M13 hM13 M14 hM14) Q := by
  unfold at' owns
  iintro ⟨⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  sl_exec
  sl_step
  iapply Hk
  isplitl [H8]
  · iexists _; isplitr; swap; · iexact H8
    ipureintro; rw [View.read_writes_full, readAt_window _ _ _ e14, readAt_window _ _ _ e11]
  isplitl [H9]
  · iexists _; isplitr; swap; · iexact H9
    ipureintro; rw [View.read_writes_full, readAt_window _ _ _ e14, readAt_window _ _ _ e12]
  isplitl [H10]
  · iexists _; isplitr; swap; · iexact H10
    ipureintro; rw [View.read_writes_full, readAt_window _ _ _ e14, readAt_window _ _ _ e13]
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  iexists _; isplitr; swap; · iexact H14
  ipureintro; exact e14

end Runs

end Cert.KernelIdeal.Body

end
-- ==== Proof.Quiet.lean ====
/-
  The kernel leaves its inputs alone and stops with every semaphore counter at zero, for any float values. The body is
  run at every grid point from any contents of the buffers it is handed to some contents (nothing is said of which), and
  the region's write-backs touch only the output arrays.
-/
module

public import proofs.«01_k».proof.Proof.Body
public import proofs.«01_k».proof.Proof.Gen.KernelIdeal.Frame
public import Idealize.ShloMosaic.Lib.Pipeline.FrameSuffix

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-- Every grid point is in one of the body's four situations. -/
theorem situations : ∀ i : grid0.Coords,
    (k0_cond1 i = 1#1 ∧ k0_cond2 i = 1#1 ∧ ¬ k0_cond9 i = 1#1 ∧ early i ∧ ¬ last i)
    ∨ (¬ k0_cond1 i = 1#1 ∧ k0_cond2 i = 1#1 ∧ ¬ k0_cond9 i = 1#1 ∧ early i ∧ ¬ last i)
    ∨ (¬ k0_cond1 i = 1#1 ∧ k0_cond2 i = 1#1 ∧ ¬ k0_cond9 i = 1#1 ∧ ¬ early i ∧ last i)
    ∨ (¬ k0_cond1 i = 1#1 ∧ ¬ k0_cond2 i = 1#1 ∧ k0_cond9 i = 1#1) := by
  decide +kernel

section Any

variable (c : Dev nD) (i : grid0.Coords)
    (M2 : Memref sig .tc .vmem S8x128 .f32) (hM2 : M2.IsWhole) (M3 : Memref sig .tc .vmem S128x128 .f32) (hM3 : M3.IsWhole)
    (M4 : Memref sig .tc .vmem S12800x128 .f32) (hM4 : M4.IsWhole) (M5 : Memref sig .tc .vmem S12800x128 .f32) (hM5 : M5.IsWhole)
    (M6 : Memref sig .tc .vmem S12800x128 .f32) (hM6 : M6.IsWhole) (M7 : Memref sig .tc .vmem S8x128 .f32) (hM7 : M7.IsWhole)
    (M8 : Memref sig .tc .vmem S8x12800 .f32) (hM8 : M8.IsWhole) (M9 : Memref sig .tc .vmem S8x12800 .f32) (hM9 : M9.IsWhole)
    (M10 : Memref sig .tc .vmem S8x12800 .f32) (hM10 : M10.IsWhole)
    (M11 : Memref sig .tc .vmem S8x102400 .f32) (hM11 : M11.IsWhole) (M12 : Memref sig .tc .vmem S8x102400 .f32) (hM12 : M12.IsWhole)
    (M13 : Memref sig .tc .vmem S8x102400 .f32) (hM13 : M13.IsWhole) (M14 : Memref sig .tc .vmem S3x8x128 .f32) (hM14 : M14.IsWhole)

/-- THE BODY AT ANY POINT: from any contents of its thirteen buffers, it stops with each at some contents. -/
theorem run_any (X2 : S8x128.Idx → Elt F .f32) (X3 : S128x128.Idx → Elt F .f32) (X4 : S12800x128.Idx → Elt F .f32) (X5 : S12800x128.Idx → Elt F .f32) (X6 : S12800x128.Idx → Elt F .f32) (X7 : S8x128.Idx → Elt F .f32) (X8 : S8x12800.Idx → Elt F .f32) (X9 : S8x12800.Idx → Elt F .f32) (X10 : S8x12800.Idx → Elt F .f32) (X11 : S8x102400.Idx → Elt F .f32) (X12 : S8x102400.Idx → Elt F .f32) (X13 : S8x102400.Idx → Elt F .f32) (X14 : S3x8x128.Idx → Elt F .f32) (Q : PUnit → sProp 𝕄) :
    iprop(at' c M2 X2 ∗ at' c M3 X3 ∗ at' c M4 X4 ∗ at' c M5 X5 ∗ at' c M6 X6 ∗ at' c M7 X7 ∗ at' c M8 X8 ∗ at' c M9 X9 ∗ at' c M10 X10 ∗ at' c M11 X11 ∗ at' c M12 X12 ∗ at' c M13 X13 ∗ at' c M14 X14
      ∗ (iprop((∃ X, at' c M2 X) ∗ (∃ X, at' c M3 X) ∗ (∃ X, at' c M4 X) ∗ (∃ X, at' c M5 X) ∗ (∃ X, at' c M6 X) ∗ (∃ X, at' c M7 X) ∗ (∃ X, at' c M8 X) ∗ (∃ X, at' c M9 X) ∗ (∃ X, at' c M10 X) ∗ (∃ X, at' c M11 X) ∗ (∃ X, at' c M12 X) ∗ (∃ X, at' c M13 X) ∗ (∃ X, at' c M14 X)) -∗ Q ⟨⟩))
    ⊢ wp frame (wpE (defs₀ (F := F)) Variants.none c none) Set.univ
        (cc0__body i M2 hM2 M3 hM3 M4 hM4 M5 hM5 M6 hM6 M7 hM7 M8 hM8 M9 hM9 M10 hM10 M11 hM11 M12 hM12 M13 hM13 M14 hM14) Q := by
  iintro ⟨H2, H3, H4, H5, H6, H7, H8, H9, H10, H11, H12, H13, H14, Hk⟩
  rcases situations i with ⟨h1, h2, h9, h3, h4⟩ | ⟨h1, h2, h9, h3, h4⟩ | ⟨h1, h2, h9, h3, h4⟩ | ⟨h1, h2, h9⟩
  · iapply (run_first c i M2 hM2 M3 hM3 M4 hM4 M5 hM5 M6 hM6 M7 hM7 M8 hM8 M9 hM9 M10 hM10 M11 hM11 M12 hM12 M13 hM13 M14 hM14 h1 h2 h9 h3 h4 X2 X4 X5 X6 X3 X7 X11 X12 X13 X14 Q)
    isplitl [H2]; · iexact H2
    isplitl [H4]; · iexact H4
    isplitl [H5]; · iexact H5
    isplitl [H6]; · iexact H6
    isplitl [H3]; · iexact H3
    isplitl [H7]; · iexact H7
    isplitl [H11]; · iexact H11
    isplitl [H12]; · iexact H12
    isplitl [H13]; · iexact H13
    isplitl [H14]; · iexact H14
    iintro ⟨H2, H4, H5, H6, H3, H7, H11, H12, H13, H14⟩
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply (run_middle c i M2 hM2 M3 hM3 M4 hM4 M5 hM5 M6 hM6 M7 hM7 M8 hM8 M9 hM9 M10 hM10 M11 hM11 M12 hM12 M13 hM13 M14 hM14 h1 h2 h9 h3 h4 X2 X4 X5 X6 X11 X12 X13 X14 Q)
    isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    iintro ⟨H2, H4, H5, H6, H11, H12, H13, H14⟩
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply (run_last c i M2 hM2 M3 hM3 M4 hM4 M5 hM5 M6 hM6 M7 hM7 M8 hM8 M9 hM9 M10 hM10 M11 hM11 M12 hM12 M13 hM13 M14 hM14 h1 h2 h9 h3 h4 X2 X4 X5 X6 X11 X12 X13 X14 Q)
    isplitl [H2]; · iexact H2
    isplitl [H4]; · iexact H4
    isplitl [H5]; · iexact H5
    isplitl [H6]; · iexact H6
    isplitl [H11]; · iexact H11
    isplitl [H12]; · iexact H12
    isplitl [H13]; · iexact H13
    isplitl [H14]; · iexact H14
    iintro ⟨H2, H4, H5, H6, H11, H12, H13, H14⟩
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · iapply (run_second c i M2 hM2 M3 hM3 M4 hM4 M5 hM5 M6 hM6 M7 hM7 M8 hM8 M9 hM9 M10 hM10 M11 hM11 M12 hM12 M13 hM13 M14 hM14 h1 h2 h9 X8 X9 X10 X11 X12 X13 X14 Q)
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H8, H9, H10, H11, H12, H13, H14⟩
    iapply Hk
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Any

variable (m : (ℓ : Loc nD τ sig) → Buf (Elt F) ℓ) (ρ : Dev nD → PrngReg)

/-- The region's proof data when nothing is said of what the body leaves: the arrays at what the region finds, full
    shares, nothing owed, the scratch at any contents. -/
def loose (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The scratch buffers, each held whole at some contents. -/
theorem scratch_held (c : Dev nD) :
    (Pipeline.scopedRest (Ix := Unit) (Name := ℕ) (U := UR sig nD τ) (Lvl := ℕ) (Val := Elt F) spec0 c : sProp 𝕄)
      = iprop((∃ X : S8x102400.Idx → Elt F .f32, at' c (Memref.whole cc0_scratch0) X) ∗ (∃ X : S8x102400.Idx → Elt F .f32, at' c (Memref.whole cc0_scratch1) X)
        ∗ (∃ X : S8x102400.Idx → Elt F .f32, at' c (Memref.whole cc0_scratch2) X) ∗ (∃ X : S3x8x128.Idx → Elt F .f32, at' c (Memref.whole cc0_scratch3) X)) := by
  rw [scopedRest0_eq]
  simp only [owns_whole]
  rfl

/-- The body keeps that data's terms at every point. -/
theorem loose_body (c : Dev nD) : RDat.BodyObligation (loose m c) (defs₀ (F := F)) Variants.none () Set.univ := fun t Y _ => by
  rw [bigSep_W0, bigSep_W0]
  rw [show (loose m c).Φ t.succ = Pipeline.ΦA spec0 c from rfl, show (loose m c).Φ t.castSucc = Pipeline.ΦA spec0 c from rfl,
    show (loose m c).owesAt () t.succ = (loose m c).owesAt () t.castSucc from rfl]
  unfold Pipeline.ΦA
  rw [scratch_held]
  iintro ⟨⟨⟨⟨%f11, H11⟩, ⟨%f12, H12⟩, ⟨%f13, H13⟩, ⟨%f14, H14⟩⟩, Hr⟩, Ho, H2, H3, H4, H5, H6, H7, H8, H9, H10⟩
  iapply (run_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Y 0) (Y 1) (Y 2) (Y 3) (Y 4) (Y 5) (Y 6) (Y 7) (Y 8) f11 f12 f13 f14 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩⟩
  isplitl [H11 H12 H13 H14 Hr]
  · isplitr [Hr]
    · isplitl [H11]; · iexists g11; iexact H11
      isplitl [H12]; · iexists g12; iexact H12
      isplitl [H13]; · iexists g13; iexact H13
      iexists g14; iexact H14
    · iexact Hr
  isplitl [Ho]; · iexact Ho
  isplitl [H2]
  · iexists g2; isplitr; swap; · iexact H2
    ipureintro; trivial
  isplitl [H3]
  · iexists g3; isplitr; swap; · iexact H3
    ipureintro; trivial
  isplitl [H4]
  · iexists g4; isplitr; swap; · iexact H4
    ipureintro; trivial
  isplitl [H5]
  · iexists g5; isplitr; swap; · iexact H5
    ipureintro; trivial
  isplitl [H6]
  · iexists g6; isplitr; swap; · iexact H6
    ipureintro; trivial
  isplitl [H7]
  · iexists g7; isplitr; swap; · iexact H7
    ipureintro; trivial
  isplitl [H8]
  · iexists g8; isplitr; swap; · iexact H8
    ipureintro; trivial
  isplitl [H9]
  · iexists g9; isplitr; swap; · iexact H9
    ipureintro; trivial
  iexists g10; isplitr; swap; · iexact H10
  ipureintro; trivial

/-- The one host operation after the region writes the first result only. -/
theorem tail_writes : ∀ ops ∈ ([hostOps1] : List (List (HloOp τ sig (Elt F)))), ∀ op ∈ ops,
    ∀ b : Ref sig .tc, Proc.devRef .tc b ∈ op.writes → b ∈ ({main_v0_0} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb ⊢
  exact Proc.devRef_injective .tc hb

set_option backward.isDefEq.respectTransparency.types false in
/-- From any memory with zero counters every fair execution stops, with every argument array unchanged and every
    semaphore counter at zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.RDat.θ_run_frame_around_T cfgs (0 : Fin 1) launch0 defs₀ Variants.none (loose m) {main_v0_0} m ρ main
    (loose_body m) (fun c => (loose m c).share_full fun _ => rfl) (fun _ _ => rfl) (V0 m) [hostOps1]
    sfx_sub sfx_fresh sfx_keeps tail_writes (hmain m Variants.none) (fun _ _ => rfl) (fun _ _ => rfl)
    (Q' := _)
    (hQ' := fun r h => ⟨fun c =>
      ⟨((h.1 c).2 main_arg0 (Finset.mem_sdiff.2 ⟨Pipeline.mem_restRefs_of main_arg0 (by decide) (by decide), by decide⟩)).trans (V_main_arg0 m c),
       (Pipeline.RDat.FramePostR.arr_in h.1 c 1 rfl).trans (V_main_arg1 m c),
       ((h.1 c).2 main_arg2 (Finset.mem_sdiff.2 ⟨Pipeline.mem_restRefs_of main_arg2 (by decide) (by decide), by decide⟩)).trans (V_main_arg2 m c),
       ((h.1 c).2 main_arg3 (Finset.mem_sdiff.2 ⟨Pipeline.mem_restRefs_of main_arg3 (by decide) (by decide), by decide⟩)).trans (V_main_arg3 m c),
       ((h.1 c).2 main_arg4 (Finset.mem_sdiff.2 ⟨Pipeline.mem_restRefs_of main_arg4 (by decide) (by decide), by decide⟩)).trans (V_main_arg4 m c)⟩,
      h.2⟩)

end Cert.KernelIdeal.Body

end
-- ==== Proof.Payload.lean ====
/-
  What the body's stored values are at one index, over the extended reals: the exponential of a logit, a lane sum grown by a
  tile's exponentials (all of them, or those inside the rows), and an exponential times the inverse of its row sum.
-/
module

public import proofs.«01_k».proof.Proof.Gen.KernelIdeal
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Body

open Cert.KernelIdeal Cert.KernelIdeal.Gen
open Idealize.ShloMosaic
open Idealize.ShloMosaic.TcCoe

/-- One tile's exponentials: row `r` of the input against row `j` of the tile's weights. -/
def ex (X : FVec Ideal S8x128 .f32) (W : FVec Ideal S12800x128 .f32) (r : Fin 8) (j : Fin 12800) : EReal :=
  Ideal.exp (∑ k : Fin 128, X (ix2 r k) * W (ix2 j k))

/-! ## The three heads' operations are the same -/

section Same

variable {F : FTy → Type} [FloatOps F]

/-- The three heads store one function of the rows and the weights; here the second head's exponentials. -/
theorem pay13_eq : k0_pay13 (F := F) = k0_pay9 := rfl

/-- The second head's lane sums are the first head's function. -/
theorem pay14_eq : k0_pay14 (F := F) = k0_pay10 := rfl

/-- The second head's masked lane sums are the first head's function. -/
theorem pay15_eq : k0_pay15 (F := F) = k0_pay11 := rfl

/-- The third head's exponentials are the first head's function. -/
theorem pay4_eq (X : Vec F S8x128 .f32) (W : Vec F S12800x128 .f32) : k0_pay4 (k0_pay16 X W) = k0_pay9 X W := rfl

/-- The third head's lane sums are the first head's function. -/
theorem pay5_eq (X : Vec F S8x128 .f32) (W : Vec F S12800x128 .f32) (S : Vec F S1x8x128 .f32) :
    k0_pay5 (k0_pay16 X W) S = k0_pay10 X W S := rfl

/-- The third head's masked lane sums are the first head's function. -/
theorem pay6_eq (i : grid0.Coords) (X : Vec F S8x128 .f32) (W : Vec F S12800x128 .f32) (S : Vec F S1x8x128 .f32) :
    k0_pay6 i (k0_pay16 X W) S = k0_pay11 (BitVec.ofNat 32 (i 1).val) X W S := rfl

/-- The second head's results are the first head's function. -/
theorem pay18_eq : k0_pay18 (F := F) = k0_pay17 := rfl

/-- The third head's results are the first head's function. -/
theorem pay19_eq : k0_pay19 (F := F) = k0_pay17 := rfl

end Same

/-! ## At an index -/

/-- The shared output at an index. -/
theorem pay1_at (X : FVec Ideal S8x128 .f32) (W : FVec Ideal S128x128 .f32) (r : Fin 8) (e : Fin 128) :
    k0_pay1 (F := Ideal) X W (ix2 r e) = Ideal.tanh (∑ k : Fin 128, X (ix2 r k) * W (ix2 k e)) := by
  pointwise [k0_pay1]

/-- The lane sums start at zero. -/
theorem pay2_at (h : Fin 3) (r : Fin 8) (l : Fin 128) : k0_pay2 (F := Ideal) (ix3 h r l) = (0 : EReal) := by
  pointwise [k0_pay2]

/-- A tile's exponentials at an index. -/
theorem pay9_at (X : FVec Ideal S8x128 .f32) (W : FVec Ideal S12800x128 .f32) (r : Fin 8) (j : Fin 12800) :
    k0_pay9 (F := Ideal) X W (ix2 r j) = ex X W r j := by
  pointwise [k0_pay9, k0_pay8, k0_pay7, ex]

/-- The lane sums after a tile inside the rows. -/
theorem pay10_at (X : FVec Ideal S8x128 .f32) (W : FVec Ideal S12800x128 .f32) (S : FVec Ideal S1x8x128 .f32) (r : Fin 8) (l : Fin 128) :
    k0_pay10 (F := Ideal) X W S (ix3 0 r l) = S (ix3 0 r l) + ∑ s : Fin 100, ex X W r ⟨s.val * 128 + l.val, by omega⟩ := by
  pointwise [k0_pay10, k0_pay8, k0_pay7, ex]

/-- The lane sums after the last tile: only the columns inside the rows count. -/
theorem pay11_at (X : FVec Ideal S8x128 .f32) (W : FVec Ideal S12800x128 .f32) (S : FVec Ideal S1x8x128 .f32) (r : Fin 8) (l : Fin 128) :
    k0_pay11 (F := Ideal) 7#32 X W S (ix3 0 r l)
      = S (ix3 0 r l) + ∑ s : Fin 100, if 89600 + (s.val * 128 + l.val) < 100000 then ex X W r ⟨s.val * 128 + l.val, by omega⟩ else 0 := by
  pointwise [k0_pay11, k0_pay8, k0_pay7, ex]
  refine congrArg (S (ix3 0 r l) + ·) (Finset.sum_congr rfl fun s _ => ?_)
  have hs := s.isLt
  have hl := l.isLt
  have hc : IntOp.cmpi CmpIPredicate.slt (IntOp.addi (Scalar.muli 7#32 12800#32) (BitVec.ofNat 32 (s.val * 128 + l.val))) 100000#32 = 1#1
      ↔ 89600 + (s.val * 128 + l.val) < 100000 := by
    rw [show Scalar.muli 7#32 12800#32 = 89600#32 from by decide]
    rw [WordCmp.addi_ofNat]
    exact WordCmp.cmpi_slt_ofNat_eq_one_iff (by omega) (by omega)
  exact if_congr hc rfl rfl

/-- A result at an index: the exponential times the inverse of the sum over the lanes. -/
theorem pay17_at (S : FVec Ideal S1x8x128 .f32) (X : FVec Ideal S8x12800 .f32) (r : Fin 8) (j : Fin 12800) :
    k0_pay17 (F := Ideal) S X (ix2 r j) = X (ix2 r j) * Ideal.div 1 (∑ l : Fin 128, S (ix3 0 r l)) := by
  pointwise [k0_pay17]

end Cert.KernelIdeal.Body

end
-- ==== Proof.Steps.lean ====
/-
  What the row buffers and the lane sums hold after some tiles of the first phase, and that each tile keeps it so: columns of
  the tiles done hold the exponentials of their logits, a lane's sum is the sum of those exponentials that lie in the lane.
  Columns past the 100000 of a row count as zero in the sums, and nothing is said of them in the row buffers.
-/
module

public import proofs.«01_k».proof.Proof.Body
public import proofs.«01_k».proof.Proof.Payload

@[expose] public section

set_option maxRecDepth 16384

noncomputable section

namespace Cert.KernelIdeal.Body

open Cert.KernelIdeal Cert.KernelIdeal.Gen
open Idealize.ShloMosaic
open Idealize.ShloMosaic.TcCoe

variable (x : FVec Ideal S8x128 .f32) (W : FVec Ideal S100000x128 .f32)

/-- The exponential of row `r`'s logit at column `n`, zero past the last column. -/
def E (r : Fin 8) (n : ℕ) : EReal :=
  if h : n < 100000 then Ideal.exp (∑ k : Fin 128, x (ix2 r k) * W (ix2 ⟨n, h⟩ k)) else 0

/-- The sum of row `r`'s exponentials in lane `l` over the first `n` tiles. -/
def laneSum (r : Fin 8) (l : Fin 128) (n : ℕ) : EReal :=
  ∑ t ∈ Finset.range n, ∑ s : Fin 100, E x W r (t * 12800 + (s.val * 128 + l.val))

/-- Row `r`'s result at column `n`. -/
def prob (r : Fin 8) (n : ℕ) : EReal := E x W r n * Ideal.div 1 (∑ l : Fin 128, laneSum x W r l 8)

/-- `B` holds tile `t` of the weights, where the tile lies inside them. -/
def IsTile (t : ℕ) (B : FVec Ideal S12800x128 .f32) : Prop :=
  ∀ (j : Fin 12800) (k : Fin 128) (h : t * 12800 + j.val < 100000), B (ix2 j k) = W (ix2 ⟨t * 12800 + j.val, h⟩ k)

/-- The row buffer after `n` tiles. -/
def RowAt (n : ℕ) (X : FVec Ideal S8x102400 .f32) : Prop :=
  ∀ (r : Fin 8) (j : Fin 102400), j.val < n * 12800 → j.val < 100000 → X (ix2 r j) = E x W r j.val

/-- One head's lane sums after `n` tiles. -/
def LaneAt (n : ℕ) (S : FVec Ideal S1x8x128 .f32) : Prop :=
  ∀ (r : Fin 8) (l : Fin 128), S (ix3 0 r l) = laneSum x W r l n

variable {x W}

/-- A tile's exponential is the row's at the tile's place. -/
theorem ex_eq {t : ℕ} {B : FVec Ideal S12800x128 .f32} (hB : IsTile W t B) (r : Fin 8) (j : Fin 12800) (h : t * 12800 + j.val < 100000) :
    ex x B r j = E x W r (t * 12800 + j.val) := by
  unfold ex E
  rw [dif_pos h]
  exact congrArg Ideal.exp (Finset.sum_congr rfl fun k _ => congrArg (fun y : EReal => x (ix2 r k) * y) (hB j k h))

/-- Past the rows' end the exponential counts as zero. -/
theorem E_past (r : Fin 8) (n : ℕ) (h : 100000 ≤ n) : E x W r n = 0 := by
  unfold E; rw [dif_neg (not_lt.mpr h)]

/-- The stored tile at an index: the new values on the tile's columns, the old ones elsewhere. -/
theorem tile_at (i : grid0.Coords) (X : FVec Ideal S8x102400 .f32) (w : FVec Ideal S8x12800 .f32) (r : Fin 8) (j : Fin 102400) :
    tile (F := Ideal) i X w (ix2 r j) = if h : 12800 * (i 1).val ≤ j.val ∧ j.val < 12800 * (i 1).val + 12800
      then w (ix2 r ⟨j.val - 12800 * (i 1).val, by omega⟩) else X (ix2 r j) := by
  show VecWindow.put X (k0_off1 i) S8x12800.size w (ix2 r j) = _
  rw [k0_off1_eq i]
  by_cases h : 12800 * (i 1).val ≤ j.val ∧ j.val < 12800 * (i 1).val + 12800
  · rw [dif_pos h]
    unfold VecWindow.put
    rw [dif_pos (show ∀ a : Fin S8x102400.rank, (![0, 12800 * (i 1).val] : Fin 2 → ℕ) a ≤ ((ix2 r j : S8x102400.Idx) a).val
        ∧ ((ix2 r j : S8x102400.Idx) a).val < (![0, 12800 * (i 1).val] : Fin 2 → ℕ) a + S8x12800.size a from fun a => by
      fin_cases a
      · exact ⟨Nat.zero_le _, by show r.val < 0 + 8; omega⟩
      · exact h)]
    exact congrArg w (funext fun a => Fin.ext (by fin_cases a <;> rfl))
  · rw [dif_neg h]
    unfold VecWindow.put
    rw [dif_neg (fun hh => h (hh 1))]

/-- A column of the first `v + 1` tiles outside tile `v` is one of the first `v` tiles. -/
theorem below {v j : ℕ} (hj : j < (v + 1) * 12800) (h : ¬ (12800 * v ≤ j ∧ j < 12800 * v + 12800)) : j < v * 12800 := by
  rw [Nat.add_mul, Nat.one_mul, Nat.mul_comm] at hj
  rw [Nat.mul_comm]
  exact not_le.mp fun h' => h ⟨h', hj⟩

/-- Storing tile `n` makes the row buffer right for `n + 1` tiles. -/
theorem row_step {n : ℕ} {X : FVec Ideal S8x102400 .f32} {B : FVec Ideal S12800x128 .f32} (i : grid0.Coords) (hi : (i 1).val = n)
    (hX : RowAt x W n X) (hB : IsTile W n B) : RowAt x W (n + 1) (tile (F := Ideal) i X (k0_pay9 (F := Ideal) x B)) := by
  intro r j hj hv
  subst hi
  rw [tile_at]
  by_cases h : 12800 * (i 1).val ≤ j.val ∧ j.val < 12800 * (i 1).val + 12800
  · have e : (i 1).val * 12800 + (j.val - 12800 * (i 1).val) = j.val := by omega
    rw [dif_pos h, pay9_at, ex_eq hB r ⟨j.val - 12800 * (i 1).val, by omega⟩ (by show (i 1).val * 12800 + (j.val - 12800 * (i 1).val) < 100000; omega)]
    show E x W r ((i 1).val * 12800 + (j.val - 12800 * (i 1).val)) = _
    rw [e]
  · rw [dif_neg h]
    exact hX r j (below hj h) hv

/-- Before any tile the lane sums are zero. -/
theorem lane_zero (h : Fin 3) (S : FVec Ideal S1x8x128 .f32) (hS : ∀ r l, S (ix3 0 r l) = k0_pay2 (F := Ideal) (ix3 h r l)) : LaneAt x W 0 S := by
  intro r l
  rw [hS, pay2_at]
  unfold laneSum
  rw [Finset.range_zero, Finset.sum_empty]

/-- A tile inside the rows adds its exponentials to the lane sums. -/
theorem lane_step {n : ℕ} {S : FVec Ideal S1x8x128 .f32} {B : FVec Ideal S12800x128 .f32} (hn : n < 7)
    (hS : LaneAt x W n S) (hB : IsTile W n B) : LaneAt x W (n + 1) (k0_pay10 (F := Ideal) x B S) := by
  intro r l
  rw [pay10_at, hS r l]
  unfold laneSum
  rw [Finset.sum_range_succ]
  refine congrArg₂ (fun a b : EReal => a + b) rfl (Finset.sum_congr rfl fun s _ => ?_)
  have hs := s.isLt
  have hl := l.isLt
  exact ex_eq hB r ⟨s.val * 128 + l.val, by omega⟩ (by show n * 12800 + (s.val * 128 + l.val) < 100000; omega)

/-- The last tile adds those of its exponentials that lie inside the rows. -/
theorem lane_last {S : FVec Ideal S1x8x128 .f32} {B : FVec Ideal S12800x128 .f32}
    (hS : LaneAt x W 7 S) (hB : IsTile W 7 B) : LaneAt x W 8 (k0_pay11 (F := Ideal) 7#32 x B S) := by
  intro r l
  rw [pay11_at, hS r l]
  unfold laneSum
  rw [Finset.sum_range_succ _ 7]
  refine congrArg₂ (fun a b : EReal => a + b) rfl (Finset.sum_congr rfl fun s _ => ?_)
  have hs := s.isLt
  have hl := l.isLt
  by_cases h : 89600 + (s.val * 128 + l.val) < 100000
  · rw [if_pos h]
    exact ex_eq hB r ⟨s.val * 128 + l.val, by omega⟩ (by show 7 * 12800 + (s.val * 128 + l.val) < 100000; omega)
  · rw [if_neg h, E_past _ _ (by omega)]

/-! ## The three heads' parts of the lane sums -/

section Parts

variable (S : FVec Ideal S3x8x128 .f32) (a b d : FVec Ideal S1x8x128 .f32)

/-- The first head's part at an index. -/
theorem lane0_at (r : Fin 8) (l : Fin 128) : lane0 (F := Ideal) S (ix3 0 r l) = S (ix3 0 r l) :=
  congrArg S (funext fun a => Fin.ext (by fin_cases a <;> simp [Rect.emb_apply]))

/-- The second head's part at an index. -/
theorem lane1_at (r : Fin 8) (l : Fin 128) : lane1 (F := Ideal) S (ix3 0 r l) = S (ix3 1 r l) :=
  congrArg S (funext fun a => Fin.ext (by fin_cases a <;> simp [Rect.emb_apply]))

/-- The third head's part at an index. -/
theorem lane2_at (r : Fin 8) (l : Fin 128) : lane2 (F := Ideal) S (ix3 0 r l) = S (ix3 2 r l) :=
  congrArg S (funext fun a => Fin.ext (by fin_cases a <;> simp [Rect.emb_apply]))

/-- The first head's part is not touched by storing the third's. -/
theorem apart20 (X : FVec Ideal S3x8x128 .f32) :
    VecWindow.window (VecWindow.put X ![2, 0, 0] ![1, 8, 128] d) ![0, 0, 0] ![1, 8, 128] inb_S3x8x128_S1x8x128_0_0_0 = lane0 (F := Ideal) X :=
  VecWindow.window_put_of_disjoint X ![2, 0, 0] ![1, 8, 128] ![0, 0, 0] ![1, 8, 128] _ d (0 : Fin 3) (.inl (by decide))

/-- The first head's part is not touched by storing the second's. -/
theorem apart10 (X : FVec Ideal S3x8x128 .f32) :
    VecWindow.window (VecWindow.put X ![1, 0, 0] ![1, 8, 128] d) ![0, 0, 0] ![1, 8, 128] inb_S3x8x128_S1x8x128_0_0_0 = lane0 (F := Ideal) X :=
  VecWindow.window_put_of_disjoint X ![1, 0, 0] ![1, 8, 128] ![0, 0, 0] ![1, 8, 128] _ d (0 : Fin 3) (.inl (by decide))

/-- The second head's part is not touched by storing the third's. -/
theorem apart21 (X : FVec Ideal S3x8x128 .f32) :
    VecWindow.window (VecWindow.put X ![2, 0, 0] ![1, 8, 128] d) ![1, 0, 0] ![1, 8, 128] inb_S3x8x128_S1x8x128_1_0_0 = lane1 (F := Ideal) X :=
  VecWindow.window_put_of_disjoint X ![2, 0, 0] ![1, 8, 128] ![1, 0, 0] ![1, 8, 128] _ d (0 : Fin 3) (.inl (by decide))

/-- After the three stores the first head's part is what was stored for it. -/
theorem lane0_lanes : lane0 (F := Ideal) (lanes (F := Ideal) S a b d) = a :=
  (apart20 d (VecWindow.put (VecWindow.put S ![0, 0, 0] ![1, 8, 128] a) ![1, 0, 0] ![1, 8, 128] b)).trans
    ((apart10 b (VecWindow.put S ![0, 0, 0] ![1, 8, 128] a)).trans (VecWindow.window_put_same S ![0, 0, 0] ![1, 8, 128] _ a))

/-- After the three stores the second head's part is what was stored for it. -/
theorem lane1_lanes : lane1 (F := Ideal) (lanes (F := Ideal) S a b d) = b :=
  (apart21 d (VecWindow.put (VecWindow.put S ![0, 0, 0] ![1, 8, 128] a) ![1, 0, 0] ![1, 8, 128] b)).trans
    (VecWindow.window_put_same (VecWindow.put S ![0, 0, 0] ![1, 8, 128] a) ![1, 0, 0] ![1, 8, 128] _ b)

/-- After the three stores the third head's part is what was stored for it. -/
theorem lane2_lanes : lane2 (F := Ideal) (lanes (F := Ideal) S a b d) = d :=
  VecWindow.window_put_same (VecWindow.put (VecWindow.put S ![0, 0, 0] ![1, 8, 128] a) ![1, 0, 0] ![1, 8, 128] b) ![2, 0, 0] ![1, 8, 128] _ d

end Parts

/-- The stored result at an index of the tile. -/
theorem out_at {X : FVec Ideal S8x102400 .f32} {S : FVec Ideal S1x8x128 .f32} (i : grid0.Coords) (h9 : k0_cond9 i = 1#1)
    (hX : RowAt x W 8 X) (hS : LaneAt x W 8 S) (r : Fin 8) (j : Fin 12800) (h : (i 1).val * 12800 + j.val < 100000) :
    k0_pay17 (F := Ideal) S (VecWindow.window X (k0_off2 i) S8x12800.size (k0_off2_inb i h9)) (ix2 r j)
      = prob x W r ((i 1).val * 12800 + j.val) := by
  rw [pay17_at]
  unfold prob
  refine congrArg₂ (fun p q : EReal => p * q) ?_ (congrArg (Ideal.div 1) (Finset.sum_congr rfl fun l _ => hS r l))
  rw [← hX r ⟨(i 1).val * 12800 + j.val, by omega⟩ (by show (i 1).val * 12800 + j.val < _; omega) h]
  refine congrArg X (funext fun a => Fin.ext ?_)
  have e := congrFun (k0_off2_eq i) a
  rw [Rect.emb_apply]
  fin_cases a
  · have e0 : k0_off2 i 0 = 0 := e
    show k0_off2 i 0 + 1 * r.val = r.val; omega
  · have e1 : k0_off2 i 1 = 12800 * (i 1).val := e
    show k0_off2 i 1 + 1 * j.val = (i 1).val * 12800 + j.val; omega

end Cert.KernelIdeal.Body

end
-- ==== Proof.Data.lean ====
/-
  The region's proof data at exact values: what each window's staging buffer holds when the body meets it and when it leaves
  it, and what the scratch buffers hold between two grid points. Here are the facts about the grid, the windows' blocks and
  the buffers the body finds; the body itself is in `ValueBody`.
-/
module

public import proofs.«01_k».proof.Proof.Steps
public import proofs.«01_k».proof.Proof.Quiet
public import Idealize.ShloMosaic.Lib.Pipeline.FrameBody
public import Idealize.ShloMosaic.Lib.Pipeline.ValueKit

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

local notation "𝕄" => MT nD τ sig Unit (Elt Ideal) ℕ (UR sig nD τ) ℕ

variable (m : (ℓ : Loc nD τ sig) → Buf (Elt Ideal) ℓ)

/-! ## The arrays as the region finds them -/

/-- The rows. -/
def rows (c : Dev nD) : FVec Ideal S8x128 .f32 := V m c main_call0_v0

/-- The shared weights. -/
def shared (c : Dev nD) : FVec Ideal S128x128 .f32 := V m c main_arg1

/-- The first head's weights row by row. -/
def head1 (c : Dev nD) : FVec Ideal S100000x128 .f32 := V m c main_call0_v1

/-- The second head's weights row by row. -/
def head2 (c : Dev nD) : FVec Ideal S100000x128 .f32 := V m c main_call0_v2

/-- The third head's weights row by row. -/
def head3 (c : Dev nD) : FVec Ideal S100000x128 .f32 := V m c main_call0_v3

/-! ## The grid -/

/-- Where a point stands: its tile, and which of the body's situations it is in. -/
theorem place : ∀ t : Fin cfg0.N, (grid0.coords t 1).val = t.val % 8 ∧ (k0_cond1 (grid0.coords t) = 1#1 ↔ t.val = 0)
    ∧ (k0_cond2 (grid0.coords t) = 1#1 ↔ t.val < 8) ∧ (k0_cond9 (grid0.coords t) = 1#1 ↔ 8 ≤ t.val)
    ∧ (early (grid0.coords t) ↔ t.val % 8 < 7) ∧ (last (grid0.coords t) ↔ t.val % 8 = 7) :=
  (by decide +kernel : ∀ t : Fin grid0.N, _)

/-- The windows' block indices. -/
theorem idx : ∀ t : Fin cfg0.N, win0_0.index t = ![0, 0] ∧ win0_1.index t = ![0, 0]
    ∧ win0_2.index t = ![min t.val 7, 0] ∧ win0_3.index t = ![min t.val 7, 0] ∧ win0_4.index t = ![min t.val 7, 0]
    ∧ win0_5.index t = ![0, 0]
    ∧ win0_6.index t = ![0, t.val - 8] ∧ win0_7.index t = ![0, t.val - 8] ∧ win0_8.index t = ![0, t.val - 8] :=
  (by decide +kernel : ∀ t : Fin grid0.N, _)

/-- How much of a block lies inside its array. -/
theorem inside : ∀ t : Fin cfg0.N,
    win0_2.xsize (grid0.coords t) = ![min 12800 (100000 - min t.val 7 * 12800), 128]
    ∧ win0_3.xsize (grid0.coords t) = ![min 12800 (100000 - min t.val 7 * 12800), 128]
    ∧ win0_4.xsize (grid0.coords t) = ![min 12800 (100000 - min t.val 7 * 12800), 128]
    ∧ win0_6.xsize (grid0.coords t) = ![8, min 12800 (100000 - (t.val - 8) * 12800)]
    ∧ win0_7.xsize (grid0.coords t) = ![8, min 12800 (100000 - (t.val - 8) * 12800)]
    ∧ win0_8.xsize (grid0.coords t) = ![8, min 12800 (100000 - (t.val - 8) * 12800)] :=
  (by decide +kernel : ∀ t : Fin grid0.N, _)

/-- Where the outputs are written back. -/
theorem flushes : ∀ t : Fin cfg0.N, (win0_5.flush t = true ↔ t.val = 15) ∧ (win0_6.flush t = true ↔ 8 ≤ t.val)
    ∧ (win0_7.flush t = true ↔ 8 ≤ t.val) ∧ (win0_8.flush t = true ↔ 8 ≤ t.val) ∧ win0_5.fetch t = false :=
  (by decide +kernel : ∀ t : Fin grid0.N, _)

/-- Where the body leaves an output window alone. -/
theorem idles : ∀ t : Fin cfg0.N, (idle0 5 (grid0.coords t) = false ↔ t.val = 0) ∧ (idle0 6 (grid0.coords t) = false ↔ 8 ≤ t.val)
    ∧ (idle0 7 (grid0.coords t) = false ↔ 8 ≤ t.val) ∧ (idle0 8 (grid0.coords t) = false ↔ 8 ≤ t.val) :=
  (by decide +kernel : ∀ t : Fin grid0.N, _)

/-! ## The scratch between two points -/

/-- After `n` points: the row buffers hold the tiles done, and (once there was one) the lane sums are theirs. -/
def Inv (c : Dev nD) (n : ℕ) (X11 X12 X13 : FVec Ideal S8x102400 .f32) (S : FVec Ideal S3x8x128 .f32) : Prop :=
  (RowAt (rows m c) (head1 m c) (min n 8) X11 ∧ RowAt (rows m c) (head2 m c) (min n 8) X12 ∧ RowAt (rows m c) (head3 m c) (min n 8) X13)
  ∧ (n = 0 ∨ (LaneAt (rows m c) (head1 m c) (min n 8) (lane0 (F := Ideal) S) ∧ LaneAt (rows m c) (head2 m c) (min n 8) (lane1 (F := Ideal) S)
      ∧ LaneAt (rows m c) (head3 m c) (min n 8) (lane2 (F := Ideal) S)))

/-- The scratch and the random register after `n` points. -/
def held (c : Dev nD) (n : ℕ) : sProp 𝕄 :=
  iprop(∃ X11 : S8x102400.Idx → Elt Ideal .f32, ∃ X12 : S8x102400.Idx → Elt Ideal .f32, ∃ X13 : S8x102400.Idx → Elt Ideal .f32,
    ∃ S : S3x8x128.Idx → Elt Ideal .f32, ⌜Inv m c n X11 X12 X13 S⌝
      ∗ at' c (Memref.whole cc0_scratch0) X11 ∗ at' c (Memref.whole cc0_scratch1) X12 ∗ at' c (Memref.whole cc0_scratch2) X13
      ∗ at' c (Memref.whole cc0_scratch3) S ∗ ∃ r, prngReg c r)

/-! ## The data -/

/-- A head's results in the tile of the second phase's point `t`. -/
def outTile (c : Dev nD) (W : FVec Ideal S100000x128 .f32) (t : Fin cfg0.N) : FVec Ideal S8x12800 .f32 :=
  fun y => prob (rows m c) W (y 0) ((t.val - 8) * 12800 + (y 1).val)

/-- The data: inputs keep their blocks, the shared output and the heads' results as computed; the scratch as `held`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) (iblk m c 4 t)
    | ⟨5, _⟩ => k0_pay1 (F := Ideal) (rows m c) (shared m c)
    | ⟨6, _⟩ => outTile m c (head1 m c) t
    | ⟨7, _⟩ => outTile m c (head2 m c) t
    | ⟨8, _⟩ => outTile m c (head3 m c) t
  Φ t := held m c t.val
  q _ := fullShare
  owed _ := 0

/-- What the body leaves in window 0's buffer, read off the data. -/
theorem after_0 (c : Dev nD) (t : Fin cfg0.N) : (dats m 0 c).after 0 t = iblk m c 0 t := rfl

/-- What the body leaves in window 1's buffer, read off the data. -/
theorem after_1 (c : Dev nD) (t : Fin cfg0.N) : (dats m 0 c).after 1 t = iblk m c 1 t := rfl

/-- What the body leaves in window 2's buffer, read off the data. -/
theorem after_2 (c : Dev nD) (t : Fin cfg0.N) : (dats m 0 c).after 2 t = win0_2.fill (grid0.coords t) (fun _ => (0 : EReal)) (iblk m c 2 t) := rfl

/-- What the body leaves in window 3's buffer, read off the data. -/
theorem after_3 (c : Dev nD) (t : Fin cfg0.N) : (dats m 0 c).after 3 t = win0_3.fill (grid0.coords t) (fun _ => (0 : EReal)) (iblk m c 3 t) := rfl

/-- What the body leaves in window 4's buffer, read off the data. -/
theorem after_4 (c : Dev nD) (t : Fin cfg0.N) : (dats m 0 c).after 4 t = win0_4.fill (grid0.coords t) (fun _ => (0 : EReal)) (iblk m c 4 t) := rfl

/-- What the body leaves in window 5's buffer, read off the data. -/
theorem after_5 (c : Dev nD) (t : Fin cfg0.N) : (dats m 0 c).after 5 t = k0_pay1 (F := Ideal) (rows m c) (shared m c) := rfl

/-- What the body leaves in window 6's buffer, read off the data. -/
theorem after_6 (c : Dev nD) (t : Fin cfg0.N) : (dats m 0 c).after 6 t = outTile m c (head1 m c) t := rfl

/-- What the body leaves in window 7's buffer, read off the data. -/
theorem after_7 (c : Dev nD) (t : Fin cfg0.N) : (dats m 0 c).after 7 t = outTile m c (head2 m c) t := rfl

/-- What the body leaves in window 8's buffer, read off the data. -/
theorem after_8 (c : Dev nD) (t : Fin cfg0.N) : (dats m 0 c).after 8 t = outTile m c (head3 m c) t := rfl

/-! ## What the body finds -/

/-- The rows' block is the whole array at every point. -/
theorem iblk_0 (c : Dev nD) (t : Fin cfg0.N) : iblk m c 0 t = rows m c := by
  unfold rows
  blk_ext! [iblk, idx t]

/-- The shared weights' block is the whole array at every point. -/
theorem iblk_1 (c : Dev nD) (t : Fin cfg0.N) : iblk m c 1 t = shared m c := by
  unfold shared
  blk_ext! [iblk, idx t]

/-- The body finds the rows. -/
theorem before_0 (c : Dev nD) (t : Fin cfg0.N) (d) : (dats m 0 c).before 0 t d = rows m c :=
  (before0_0_of m (dats m 0 c) rfl (fun _ => rfl) t d).trans (iblk_0 m c t)

/-- The body finds the shared weights. -/
theorem before_1 (c : Dev nD) (t : Fin cfg0.N) (d) : (dats m 0 c).before 1 t d = shared m c :=
  (before0_1_of m (dats m 0 c) rfl (fun _ => rfl) t d).trans (iblk_1 m c t)

/-- The window's cut follows its block's index. -/
theorem clip_2 : ∀ t t' : Fin cfg0.N, win0_2.index t = win0_2.index t' → win0_2.clip (grid0.coords t) = win0_2.clip (grid0.coords t') :=
  (by decide +kernel : ∀ t t' : Fin grid0.N, _)

/-- The weights' buffer holds the block of its point, and past the array's end anything. -/
theorem before_2 (c : Dev nD) (t : Fin cfg0.N) (d) : (dats m 0 c).before 2 t d = win0_2.fill (grid0.coords t) d (iblk m c 2 t) :=
  (dats m 0 c).before_in_eq_fetched 2 rfl (fun _ => rfl) clip_2 (fun t => win0_2.cut_fill (grid0.coords t) _ _) t d

/-- In the first phase that block is the point's tile. -/
theorem isTile_2 (c : Dev nD) (t : Fin cfg0.N) (ht : t.val < 8) (d) : IsTile (head1 m c) t.val (win0_2.fill (grid0.coords t) d (iblk m c 2 t)) := by
  intro j k hj
  have hx := (inside t).1
  have hm : win0_2.moved (grid0.coords t) (ix2 j k) = true := by
    rw [win0_2.moved_iff]
    intro a
    rw [hx]
    fin_cases a
    · show j.val < min 12800 (100000 - min t.val 7 * 12800)
      have := j.isLt
      omega
    · exact k.isLt
  unfold Pipeline.Window.fill
  rw [dif_pos hm]
  refine congrArg (V m c main_call0_v1) (funext fun a => Fin.ext ?_)
  refine (Pipeline.Window.rect_emb_val win0_2 t _ a rfl).trans ?_
  rw [(idx t).2.2.1]
  fin_cases a
  · show min t.val 7 * 12800 + j.val = t.val * 12800 + j.val
    rw [min_eq_left (by omega)]
  · exact Nat.zero_add _

/-- The window's cut follows its block's index. -/
theorem clip_3 : ∀ t t' : Fin cfg0.N, win0_3.index t = win0_3.index t' → win0_3.clip (grid0.coords t) = win0_3.clip (grid0.coords t') :=
  (by decide +kernel : ∀ t t' : Fin grid0.N, _)

/-- The weights' buffer holds the block of its point, and past the array's end anything. -/
theorem before_3 (c : Dev nD) (t : Fin cfg0.N) (d) : (dats m 0 c).before 3 t d = win0_3.fill (grid0.coords t) d (iblk m c 3 t) :=
  (dats m 0 c).before_in_eq_fetched 3 rfl (fun _ => rfl) clip_3 (fun t => win0_3.cut_fill (grid0.coords t) _ _) t d

/-- In the first phase that block is the point's tile. -/
theorem isTile_3 (c : Dev nD) (t : Fin cfg0.N) (ht : t.val < 8) (d) : IsTile (head2 m c) t.val (win0_3.fill (grid0.coords t) d (iblk m c 3 t)) := by
  intro j k hj
  have hx := (inside t).2.1
  have hm : win0_3.moved (grid0.coords t) (ix2 j k) = true := by
    rw [win0_3.moved_iff]
    intro a
    rw [hx]
    fin_cases a
    · show j.val < min 12800 (100000 - min t.val 7 * 12800)
      have := j.isLt
      omega
    · exact k.isLt
  unfold Pipeline.Window.fill
  rw [dif_pos hm]
  refine congrArg (V m c main_call0_v2) (funext fun a => Fin.ext ?_)
  refine (Pipeline.Window.rect_emb_val win0_3 t _ a rfl).trans ?_
  rw [(idx t).2.2.2.1]
  fin_cases a
  · show min t.val 7 * 12800 + j.val = t.val * 12800 + j.val
    rw [min_eq_left (by omega)]
  · exact Nat.zero_add _

/-- The window's cut follows its block's index. -/
theorem clip_4 : ∀ t t' : Fin cfg0.N, win0_4.index t = win0_4.index t' → win0_4.clip (grid0.coords t) = win0_4.clip (grid0.coords t') :=
  (by decide +kernel : ∀ t t' : Fin grid0.N, _)

/-- The weights' buffer holds the block of its point, and past the array's end anything. -/
theorem before_4 (c : Dev nD) (t : Fin cfg0.N) (d) : (dats m 0 c).before 4 t d = win0_4.fill (grid0.coords t) d (iblk m c 4 t) :=
  (dats m 0 c).before_in_eq_fetched 4 rfl (fun _ => rfl) clip_4 (fun t => win0_4.cut_fill (grid0.coords t) _ _) t d

/-- In the first phase that block is the point's tile. -/
theorem isTile_4 (c : Dev nD) (t : Fin cfg0.N) (ht : t.val < 8) (d) : IsTile (head3 m c) t.val (win0_4.fill (grid0.coords t) d (iblk m c 4 t)) := by
  intro j k hj
  have hx := (inside t).2.2.1
  have hm : win0_4.moved (grid0.coords t) (ix2 j k) = true := by
    rw [win0_4.moved_iff]
    intro a
    rw [hx]
    fin_cases a
    · show j.val < min 12800 (100000 - min t.val 7 * 12800)
      have := j.isLt
      omega
    · exact k.isLt
  unfold Pipeline.Window.fill
  rw [dif_pos hm]
  refine congrArg (V m c main_call0_v3) (funext fun a => Fin.ext ?_)
  refine (Pipeline.Window.rect_emb_val win0_4 t _ a rfl).trans ?_
  rw [(idx t).2.2.2.2.1]
  fin_cases a
  · show min t.val 7 * 12800 + j.val = t.val * 12800 + j.val
    rw [min_eq_left (by omega)]
  · exact Nat.zero_add _

/-- After the first point the shared output's buffer holds the shared output until it is written back. -/
theorem before_5 (c : Dev nD) (t : Fin cfg0.N) (ht : t.val ≠ 0) (d) : (dats m 0 c).before 5 t d = k0_pay1 (F := Ideal) (rows m c) (shared m c) := by
  induction hn : t.val using Nat.strong_induction_on generalizing t with
  | _ n ih =>
    subst hn
    have hlt : t.val < 16 := t.isLt
    have hf : ¬ (win0_5.flush (⟨t.val - 1, Nat.lt_of_le_of_lt (Nat.sub_le _ _) t.isLt⟩ : Fin cfg0.N) = true) := fun h => by
      have h15 : t.val - 1 = 15 := (flushes _).1.mp h
      omega
    rw [(dats m 0 c).before_of_pos 5 t ht (flushes t).2.2.2.2 d]
    refine (if_neg hf).trans ?_
    unfold Dat.left
    by_cases h0 : t.val - 1 = 0
    · rw [show cfg0.idle 5 (cfg0.grid.coords ⟨t.val - 1, Nat.lt_of_le_of_lt (Nat.sub_le _ _) t.isLt⟩) = false from (idles _).1.mpr h0]
      rfl
    · rw [show cfg0.idle 5 (cfg0.grid.coords ⟨t.val - 1, Nat.lt_of_le_of_lt (Nat.sub_le _ _) t.isLt⟩) = true from
        (Bool.not_eq_false _).mp fun h => h0 ((idles _).1.mp h)]
      exact ih (t.val - 1) (by omega) ⟨t.val - 1, Nat.lt_of_le_of_lt (Nat.sub_le _ _) t.isLt⟩ h0 rfl

/-! ## How the scratch moves on -/

variable {m} {c : Dev nD}

/-- Before the first point nothing is said of the scratch. -/
theorem inv_zero (X11 X12 X13 : FVec Ideal S8x102400 .f32) (S : FVec Ideal S3x8x128 .f32) : Inv m c 0 X11 X12 X13 S := by
  refine ⟨⟨?_, ?_, ?_⟩, .inl rfl⟩ <;> exact fun r j hj _ => absurd hj (by omega)

variable {X11 X12 X13 : FVec Ideal S8x102400 .f32} {S : FVec Ideal S3x8x128 .f32} {B2 B3 B4 : FVec Ideal S12800x128 .f32}

/-- The row buffers after one more point of the first phase. -/
theorem inv_rows {n : ℕ} (i : grid0.Coords) (hi : (i 1).val = n) (hn : n < 8) (h : Inv m c n X11 X12 X13 S)
    (h2 : IsTile (head1 m c) n B2) (h3 : IsTile (head2 m c) n B3) (h4 : IsTile (head3 m c) n B4) :
    RowAt (rows m c) (head1 m c) (n + 1) (tile (F := Ideal) i X11 (k0_pay9 (F := Ideal) (rows m c) B2))
      ∧ RowAt (rows m c) (head2 m c) (n + 1) (tile (F := Ideal) i X12 (k0_pay13 (F := Ideal) (rows m c) B3))
      ∧ RowAt (rows m c) (head3 m c) (n + 1) (tile (F := Ideal) i X13 (k0_pay4 (F := Ideal) (k0_pay16 (F := Ideal) (rows m c) B4))) := by
  obtain ⟨⟨r1, r2, r3⟩, -⟩ := h
  rw [min_eq_left (by omega)] at r1 r2 r3
  exact ⟨row_step i hi r1 h2, row_step i hi r2 h3, row_step i hi r3 h4⟩

/-- The first point. -/
theorem inv_first (i : grid0.Coords) (hi : (i 1).val = 0) (h : Inv m c 0 X11 X12 X13 S)
    (h2 : IsTile (head1 m c) 0 B2) (h3 : IsTile (head2 m c) 0 B3) (h4 : IsTile (head3 m c) 0 B4) :
    Inv m c 1 (tile (F := Ideal) i X11 (k0_pay9 (F := Ideal) (rows m c) B2)) (tile (F := Ideal) i X12 (k0_pay13 (F := Ideal) (rows m c) B3))
      (tile (F := Ideal) i X13 (k0_pay4 (F := Ideal) (k0_pay16 (F := Ideal) (rows m c) B4)))
      (lanes (F := Ideal) (k0_pay2 (F := Ideal)) (k0_pay10 (F := Ideal) (rows m c) B2 (lane0 (F := Ideal) (k0_pay2 (F := Ideal))))
        (k0_pay14 (F := Ideal) (rows m c) B3 (lane1 (F := Ideal) (k0_pay2 (F := Ideal))))
        (k0_pay5 (F := Ideal) (k0_pay16 (F := Ideal) (rows m c) B4) (lane2 (F := Ideal) (k0_pay2 (F := Ideal))))) := by
  refine ⟨?_, .inr ?_⟩
  · rw [show min 1 8 = 0 + 1 from rfl]
    exact inv_rows i hi (by omega) h h2 h3 h4
  · rw [lane0_lanes, lane1_lanes, lane2_lanes, show min 1 8 = 0 + 1 from rfl]
    exact ⟨lane_step (by omega) (lane_zero 0 _ fun r l => lane0_at _ r l) h2, lane_step (by omega) (lane_zero 1 _ fun r l => lane1_at _ r l) h3,
      lane_step (by omega) (lane_zero 2 _ fun r l => lane2_at _ r l) h4⟩

/-- A later point of the first phase whose tile lies inside the rows. -/
theorem inv_middle {n : ℕ} (i : grid0.Coords) (hi : (i 1).val = n) (h0 : n ≠ 0) (hn : n < 7) (h : Inv m c n X11 X12 X13 S)
    (h2 : IsTile (head1 m c) n B2) (h3 : IsTile (head2 m c) n B3) (h4 : IsTile (head3 m c) n B4) :
    Inv m c (n + 1) (tile (F := Ideal) i X11 (k0_pay9 (F := Ideal) (rows m c) B2)) (tile (F := Ideal) i X12 (k0_pay13 (F := Ideal) (rows m c) B3))
      (tile (F := Ideal) i X13 (k0_pay4 (F := Ideal) (k0_pay16 (F := Ideal) (rows m c) B4)))
      (lanes (F := Ideal) S (k0_pay10 (F := Ideal) (rows m c) B2 (lane0 (F := Ideal) S)) (k0_pay14 (F := Ideal) (rows m c) B3 (lane1 (F := Ideal) S))
        (k0_pay5 (F := Ideal) (k0_pay16 (F := Ideal) (rows m c) B4) (lane2 (F := Ideal) S))) := by
  have hr := inv_rows i hi (by omega) h h2 h3 h4
  obtain ⟨-, h | ⟨l1, l2, l3⟩⟩ := h
  · exact absurd h h0
  rw [min_eq_left (by omega)] at l1 l2 l3
  refine ⟨?_, .inr ?_⟩
  · rw [min_eq_left (by omega)]
    exact hr
  · rw [lane0_lanes, lane1_lanes, lane2_lanes, min_eq_left (by omega)]
    exact ⟨lane_step hn l1 h2, lane_step hn l2 h3, lane_step hn l3 h4⟩

/-- The first phase's last point. -/
theorem inv_last (i : grid0.Coords) (hi : (i 1).val = 7) (h : Inv m c 7 X11 X12 X13 S)
    (h2 : IsTile (head1 m c) 7 B2) (h3 : IsTile (head2 m c) 7 B3) (h4 : IsTile (head3 m c) 7 B4) :
    Inv m c 8 (tile (F := Ideal) i X11 (k0_pay9 (F := Ideal) (rows m c) B2)) (tile (F := Ideal) i X12 (k0_pay13 (F := Ideal) (rows m c) B3))
      (tile (F := Ideal) i X13 (k0_pay4 (F := Ideal) (k0_pay16 (F := Ideal) (rows m c) B4)))
      (lanes (F := Ideal) S (k0_pay11 (F := Ideal) (BitVec.ofNat 32 (i 1).val) (rows m c) B2 (lane0 (F := Ideal) S))
        (k0_pay15 (F := Ideal) (BitVec.ofNat 32 (i 1).val) (rows m c) B3 (lane1 (F := Ideal) S))
        (k0_pay6 (F := Ideal) i (k0_pay16 (F := Ideal) (rows m c) B4) (lane2 (F := Ideal) S))) := by
  have hr := inv_rows i hi (by omega) h h2 h3 h4
  obtain ⟨-, h | ⟨l1, l2, l3⟩⟩ := h
  · exact absurd h (by omega)
  refine ⟨hr, .inr ?_⟩
  rw [lane0_lanes, lane1_lanes, lane2_lanes, pay6_eq, hi]
  exact ⟨lane_last l1 h2, lane_last l2 h3, lane_last l3 h4⟩

/-- The second phase leaves the scratch as it is. -/
theorem inv_second {n : ℕ} (hn : 8 ≤ n) (h : Inv m c n X11 X12 X13 S) : Inv m c (n + 1) X11 X12 X13 S := by
  unfold Inv at h ⊢
  rw [min_eq_right (by omega)] at h
  rw [min_eq_right (by omega : 8 ≤ n + 1)]
  exact ⟨h.1, .inr (h.2.resolve_left (by omega))⟩

end Cert.KernelIdeal.Body

end
-- ==== Proof.ValueBody.lean ====
/-
  The region's body at exact values keeps the terms of `Data` at every grid point: the four situations of the body, each by
  its run, with the windows handed back as the region asks for them.
-/
module

public import proofs.«01_k».proof.Proof.Data

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

local notation "𝕄" => MT nD τ sig Unit (Elt Ideal) ℕ (UR sig nD τ) ℕ

/-! ## Handing a buffer back -/

section Leaves

variable {c : Dev nD} (dat : Dat τ (Elt Ideal) Unit ℕ (UR sig nD τ) ℕ cfg0 c) (w : Fin cfg0.W) (t : Fin cfg0.N)

/-- A buffer the body works on, all of it inside its array. -/
theorem leaves_whole (hi : cfg0.idle w (cfg0.grid.coords t) = false) (hl : cfg0.loose w = false) :
    owns (c : Thread nD τ) ((cfg0.win w).stage (cfg0.slots t w)) fullShare (dat.after w t) ⊢ (dat.leaves w t : sProp 𝕄) := by
  unfold Dat.leaves
  rw [hi, hl]

/-- A buffer the body works on, right where it lies inside its array. -/
theorem leaves_edge (hi : cfg0.idle w (cfg0.grid.coords t) = false) (hl : cfg0.loose w = true) (X : (cfg0.win w).block.Idx → Elt Ideal (cfg0.win w).elt)
    (hX : (cfg0.win w).cut (cfg0.grid.coords t) X = (cfg0.win w).cut (cfg0.grid.coords t) (dat.after w t)) :
    owns (c : Thread nD τ) ((cfg0.win w).stage (cfg0.slots t w)) fullShare X ⊢ (dat.leaves w t : sProp 𝕄) := by
  unfold Dat.leaves
  rw [hi, hl, ← hX]
  iintro H
  iexists X
  rw [(cfg0.win w).fill_cut]
  iexact H

/-- A buffer the body leaves alone. -/
theorem leaves_alone (hi : cfg0.idle w (cfg0.grid.coords t) = true) (hf : (cfg0.win w).flush t = false) (d) :
    owns (c : Thread nD τ) ((cfg0.win w).stage (cfg0.slots t w)) fullShare (dat.before w t d) ⊢ (dat.leaves w t : sProp 𝕄) := by
  unfold Dat.leaves
  rw [hi, hf]
  iintro H
  iexists d
  iexact H

/-- A buffer the body leaves alone where it is written back. -/
theorem leaves_done (hi : cfg0.idle w (cfg0.grid.coords t) = true) (hf : (cfg0.win w).flush t = true) (hl : cfg0.loose w = false) :
    owns (c : Thread nD τ) ((cfg0.win w).stage (cfg0.slots t w)) fullShare (dat.after w t) ⊢ (dat.leaves w t : sProp 𝕄) := by
  unfold Dat.leaves
  rw [hi, hf, hl]

end Leaves

variable (m : (ℓ : Loc nD τ sig) → Buf (Elt Ideal) ℓ)

/-- The rows' buffer, unchanged. -/
theorem leaves_0 (c : Dev nD) (t : Fin cfg0.N) :
    owns (c : Thread nD τ) (win0_0.stage (cfg0.slots t 0)) fullShare (rows m c) ⊢ ((dats m 0 c).leaves 0 t : sProp 𝕄) := by
  rw [← iblk_0 m c t]
  exact leaves_whole (dats m 0 c) 0 t rfl rfl

/-- The shared weights' buffer, unchanged. -/
theorem leaves_1 (c : Dev nD) (t : Fin cfg0.N) :
    owns (c : Thread nD τ) (win0_1.stage (cfg0.slots t 1)) fullShare (shared m c) ⊢ ((dats m 0 c).leaves 1 t : sProp 𝕄) := by
  rw [← iblk_1 m c t]
  exact leaves_whole (dats m 0 c) 1 t rfl rfl

/-- Head 1's weights' buffer, unchanged. -/
theorem leaves_2 (c : Dev nD) (t : Fin cfg0.N) (d) :
    owns (c : Thread nD τ) (win0_2.stage (cfg0.slots t 2)) fullShare (win0_2.fill (grid0.coords t) d (iblk m c 2 t)) ⊢ ((dats m 0 c).leaves 2 t : sProp 𝕄) :=
  leaves_edge (dats m 0 c) 2 t rfl rfl _ ((win0_2.cut_fill (grid0.coords t) _ _).trans (win0_2.cut_fill (grid0.coords t) _ _).symm)

/-- Head 2's weights' buffer, unchanged. -/
theorem leaves_3 (c : Dev nD) (t : Fin cfg0.N) (d) :
    owns (c : Thread nD τ) (win0_3.stage (cfg0.slots t 3)) fullShare (win0_3.fill (grid0.coords t) d (iblk m c 3 t)) ⊢ ((dats m 0 c).leaves 3 t : sProp 𝕄) :=
  leaves_edge (dats m 0 c) 3 t rfl rfl _ ((win0_3.cut_fill (grid0.coords t) _ _).trans (win0_3.cut_fill (grid0.coords t) _ _).symm)

/-- Head 3's weights' buffer, unchanged. -/
theorem leaves_4 (c : Dev nD) (t : Fin cfg0.N) (d) :
    owns (c : Thread nD τ) (win0_4.stage (cfg0.slots t 4)) fullShare (win0_4.fill (grid0.coords t) d (iblk m c 4 t)) ⊢ ((dats m 0 c).leaves 4 t : sProp 𝕄) :=
  leaves_edge (dats m 0 c) 4 t rfl rfl _ ((win0_4.cut_fill (grid0.coords t) _ _).trans (win0_4.cut_fill (grid0.coords t) _ _).symm)

/-- The shared output's buffer at the first point. -/
theorem leaves_5 (c : Dev nD) (t : Fin cfg0.N) (h0 : t.val = 0) :
    owns (c : Thread nD τ) (win0_5.stage (cfg0.slots t 5)) fullShare (k0_pay1 (F := Ideal) (rows m c) (shared m c)) ⊢ ((dats m 0 c).leaves 5 t : sProp 𝕄) :=
  leaves_whole (dats m 0 c) 5 t ((idles t).1.mpr h0) rfl

/-- The shared output's buffer after the first point. -/
theorem leaves_5' (c : Dev nD) (t : Fin cfg0.N) (h0 : t.val ≠ 0) (d) :
    owns (c : Thread nD τ) (win0_5.stage (cfg0.slots t 5)) fullShare ((dats m 0 c).before 5 t d) ⊢ ((dats m 0 c).leaves 5 t : sProp 𝕄) := by
  have hi : cfg0.idle 5 (cfg0.grid.coords t) = true := (Bool.not_eq_false _).mp fun h => h0 ((idles t).1.mp h)
  by_cases hf : (cfg0.win 5).flush t = true
  · rw [before_5 m c t h0 d]
    exact leaves_done (dats m 0 c) 5 t hi hf rfl
  · exact leaves_alone (dats m 0 c) 5 t hi ((Bool.not_eq_true _).mp hf) d

/-- A head's results agree with the tile inside the rows where they were computed right. -/
theorem agree (c : Dev nD) (W : FVec Ideal S100000x128 .f32) (t : Fin cfg0.N) (X : FVec Ideal S8x12800 .f32)
    (hX : ∀ (r : Fin 8) (j : Fin 12800), (t.val - 8) * 12800 + j.val < 100000 → X (ix2 r j) = prob (rows m c) W r ((t.val - 8) * 12800 + j.val))
    (y : S8x12800.Idx) (hy : (y 1).val < min 12800 (100000 - (t.val - 8) * 12800)) : X y = outTile m c W t y := by
  have e : y = ix2 (y 0) (y 1) := by funext a; fin_cases a <;> rfl
  rw [e]
  exact hX (y 0) (y 1) (by omega)

/-- Head 1's result buffer in the first phase. -/
theorem leaves_6 (c : Dev nD) (t : Fin cfg0.N) (h8 : t.val < 8) (d) :
    owns (c : Thread nD τ) (win0_6.stage (cfg0.slots t 6)) fullShare ((dats m 0 c).before 6 t d) ⊢ ((dats m 0 c).leaves 6 t : sProp 𝕄) :=
  leaves_alone (dats m 0 c) 6 t ((Bool.not_eq_false _).mp fun h => absurd ((idles t).2.1.mp h) (by omega))
    ((Bool.not_eq_true _).mp fun h => absurd ((flushes t).2.1.mp h) (by omega)) d

/-- Head 1's result buffer in the second phase. -/
theorem leaves_6' (c : Dev nD) (t : Fin cfg0.N) (h8 : 8 ≤ t.val) (X : FVec Ideal S8x12800 .f32)
    (hX : ∀ (r : Fin 8) (j : Fin 12800), (t.val - 8) * 12800 + j.val < 100000 → X (ix2 r j) = prob (rows m c) (head1 m c) r ((t.val - 8) * 12800 + j.val)) :
    owns (c : Thread nD τ) (win0_6.stage (cfg0.slots t 6)) fullShare X ⊢ ((dats m 0 c).leaves 6 t : sProp 𝕄) := by
  refine leaves_edge (dats m 0 c) 6 t ((idles t).2.1.mpr h8) rfl X (funext fun y => ?_)
  refine agree m c (head1 m c) t X hX (win0_6.xinj (grid0.coords t) y) ?_
  have hy : (y 1).val < win0_6.xsize (grid0.coords t) 1 := (y 1).isLt
  rw [(inside t).2.2.2.1] at hy
  exact hy

/-- Head 2's result buffer in the first phase. -/
theorem leaves_7 (c : Dev nD) (t : Fin cfg0.N) (h8 : t.val < 8) (d) :
    owns (c : Thread nD τ) (win0_7.stage (cfg0.slots t 7)) fullShare ((dats m 0 c).before 7 t d) ⊢ ((dats m 0 c).leaves 7 t : sProp 𝕄) :=
  leaves_alone (dats m 0 c) 7 t ((Bool.not_eq_false _).mp fun h => absurd ((idles t).2.2.1.mp h) (by omega))
    ((Bool.not_eq_true _).mp fun h => absurd ((flushes t).2.2.1.mp h) (by omega)) d

/-- Head 2's result buffer in the second phase. -/
theorem leaves_7' (c : Dev nD) (t : Fin cfg0.N) (h8 : 8 ≤ t.val) (X : FVec Ideal S8x12800 .f32)
    (hX : ∀ (r : Fin 8) (j : Fin 12800), (t.val - 8) * 12800 + j.val < 100000 → X (ix2 r j) = prob (rows m c) (head2 m c) r ((t.val - 8) * 12800 + j.val)) :
    owns (c : Thread nD τ) (win0_7.stage (cfg0.slots t 7)) fullShare X ⊢ ((dats m 0 c).leaves 7 t : sProp 𝕄) := by
  refine leaves_edge (dats m 0 c) 7 t ((idles t).2.2.1.mpr h8) rfl X (funext fun y => ?_)
  refine agree m c (head2 m c) t X hX (win0_7.xinj (grid0.coords t) y) ?_
  have hy : (y 1).val < win0_7.xsize (grid0.coords t) 1 := (y 1).isLt
  rw [(inside t).2.2.2.2.1] at hy
  exact hy

/-- Head 3's result buffer in the first phase. -/
theorem leaves_8 (c : Dev nD) (t : Fin cfg0.N) (h8 : t.val < 8) (d) :
    owns (c : Thread nD τ) (win0_8.stage (cfg0.slots t 8)) fullShare ((dats m 0 c).before 8 t d) ⊢ ((dats m 0 c).leaves 8 t : sProp 𝕄) :=
  leaves_alone (dats m 0 c) 8 t ((Bool.not_eq_false _).mp fun h => absurd ((idles t).2.2.2.mp h) (by omega))
    ((Bool.not_eq_true _).mp fun h => absurd ((flushes t).2.2.2.1.mp h) (by omega)) d

/-- Head 3's result buffer in the second phase. -/
theorem leaves_8' (c : Dev nD) (t : Fin cfg0.N) (h8 : 8 ≤ t.val) (X : FVec Ideal S8x12800 .f32)
    (hX : ∀ (r : Fin 8) (j : Fin 12800), (t.val - 8) * 12800 + j.val < 100000 → X (ix2 r j) = prob (rows m c) (head3 m c) r ((t.val - 8) * 12800 + j.val)) :
    owns (c : Thread nD τ) (win0_8.stage (cfg0.slots t 8)) fullShare X ⊢ ((dats m 0 c).leaves 8 t : sProp 𝕄) := by
  refine leaves_edge (dats m 0 c) 8 t ((idles t).2.2.2.mpr h8) rfl X (funext fun y => ?_)
  refine agree m c (head3 m c) t X hX (win0_8.xinj (grid0.coords t) y) ?_
  have hy : (y 1).val < win0_8.xsize (grid0.coords t) 1 := (y 1).isLt
  rw [(inside t).2.2.2.2.2] at hy
  exact hy

/-! ## The four situations -/

/-- The body keeps the data's terms at the point. -/
abbrev Keeps (c : Dev nD) (t : Fin cfg0.N) : Prop :=
  iprop((dats m 0 c).Φ t.castSucc ∗ (dats m 0 c).owesAt () t.castSucc
      ∗ bigSep Finset.univ fun w : Fin cfg0.W => iprop(∃ d, owns (c : Thread nD τ) ((cfg0.win w).stage (cfg0.slots t w)) fullShare ((dats m 0 c).before w t d)))
    ⊢ wp frame (wpE (defs₀ (F := Ideal)) Variants.none c none) Set.univ (defs₀ (F := Ideal) .tc cfg0.body (cfg0.bodyArgs t (cfg0.slots t))) fun _ =>
        iprop((dats m 0 c).Φ t.succ ∗ (dats m 0 c).owesAt () t.succ ∗ bigSep Finset.univ fun w : Fin cfg0.W => (dats m 0 c).leaves w t)

/-- The tile of a point of the second phase. -/
theorem tile_second {t : Fin cfg0.N} (h8 : 8 ≤ t.val) : t.val - 8 = (grid0.coords t 1).val := by
  have hlt : t.val < 16 := t.isLt
  rw [(place t).1]
  omega

/-- A point of the second phase is not the first. -/
theorem later {n : ℕ} (h8 : 8 ≤ n) : n ≠ 0 := by omega

/-- What the second phase stores for head 1. -/
theorem results_6 {c : Dev nD} {t : Fin cfg0.N} {X11 X12 X13 : FVec Ideal S8x102400 .f32} {S : FVec Ideal S3x8x128 .f32} (h8 : 8 ≤ t.val)
    (h9 : k0_cond9 (grid0.coords t) = 1#1) (h : Inv m c t.val X11 X12 X13 S) (r : Fin 8) (j : Fin 12800) (hj : (t.val - 8) * 12800 + j.val < 100000) :
    k0_pay17 (F := Ideal) (lane0 (F := Ideal) S) (VecWindow.window X11 (k0_off2 (grid0.coords t)) S8x12800.size (k0_off2_inb (grid0.coords t) h9)) (ix2 r j)
      = prob (rows m c) (head1 m c) r ((t.val - 8) * 12800 + j.val) := by
  have e := tile_second h8
  unfold Inv at h
  rw [min_eq_right h8] at h
  rw [e] at hj ⊢
  exact out_at (grid0.coords t) h9 h.1.1 (h.2.resolve_left (later h8)).1 r j hj

/-- What the second phase stores for head 2. -/
theorem results_7 {c : Dev nD} {t : Fin cfg0.N} {X11 X12 X13 : FVec Ideal S8x102400 .f32} {S : FVec Ideal S3x8x128 .f32} (h8 : 8 ≤ t.val)
    (h9 : k0_cond9 (grid0.coords t) = 1#1) (h : Inv m c t.val X11 X12 X13 S) (r : Fin 8) (j : Fin 12800) (hj : (t.val - 8) * 12800 + j.val < 100000) :
    k0_pay18 (F := Ideal) (lane1 (F := Ideal) S) (VecWindow.window X12 (k0_off2 (grid0.coords t)) S8x12800.size (k0_off2_inb (grid0.coords t) h9)) (ix2 r j)
      = prob (rows m c) (head2 m c) r ((t.val - 8) * 12800 + j.val) := by
  have e := tile_second h8
  unfold Inv at h
  rw [min_eq_right h8] at h
  rw [e] at hj ⊢
  rw [pay18_eq]
  exact out_at (grid0.coords t) h9 h.1.2.1 (h.2.resolve_left (later h8)).2.1 r j hj

/-- What the second phase stores for head 3. -/
theorem results_8 {c : Dev nD} {t : Fin cfg0.N} {X11 X12 X13 : FVec Ideal S8x102400 .f32} {S : FVec Ideal S3x8x128 .f32} (h8 : 8 ≤ t.val)
    (h9 : k0_cond9 (grid0.coords t) = 1#1) (h : Inv m c t.val X11 X12 X13 S) (r : Fin 8) (j : Fin 12800) (hj : (t.val - 8) * 12800 + j.val < 100000) :
    k0_pay19 (F := Ideal) (lane2 (F := Ideal) S) (VecWindow.window X13 (k0_off2 (grid0.coords t)) S8x12800.size (k0_off2_inb (grid0.coords t) h9)) (ix2 r j)
      = prob (rows m c) (head3 m c) r ((t.val - 8) * 12800 + j.val) := by
  have e := tile_second h8
  unfold Inv at h
  rw [min_eq_right h8] at h
  rw [e] at hj ⊢
  rw [pay19_eq]
  exact out_at (grid0.coords t) h9 h.1.2.2 (h.2.resolve_left (later h8)).2.2 r j hj

/-- The first point. -/
theorem keeps_first (c : Dev nD) (t : Fin cfg0.N) (h0 : t.val = 0) : Keeps m c t := by
  unfold Keeps
  rw [bigSep_W0, bigSep_W0]
  rw [show (dats m 0 c).Φ t.castSucc = held m c t.val from rfl, show (dats m 0 c).Φ t.succ = held m c (t.val + 1) from rfl,
    show (dats m 0 c).owesAt () t.succ = (dats m 0 c).owesAt () t.castSucc from rfl]
  unfold held
  simp only [before_0, before_1, before_2, before_3, before_4]
  iintro ⟨⟨%X11, %X12, %X13, %S, %hI, H11, H12, H13, H14, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  have hI := h0 ▸ hI
  iapply (run_first (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) ((place t).2.1.mpr h0) ((place t).2.2.1.mpr (by omega)) (fun h => absurd ((place t).2.2.2.1.mp h) (by omega)) ((place t).2.2.2.2.1.mpr (by omega)) (fun h => absurd ((place t).2.2.2.2.2.mp h) (by omega)) (rows m c) (win0_2.fill (grid0.coords t) d2 (iblk m c 2 t)) (win0_3.fill (grid0.coords t) d3 (iblk m c 3 t)) (win0_4.fill (grid0.coords t) d4 (iblk m c 4 t)) (shared m c) ((dats m 0 c).before 5 t d5) X11 X12 X13 S _)
  isplitl [H2]; · iexact H2
  isplitl [H4]; · iexact H4
  isplitl [H5]; · iexact H5
  isplitl [H6]; · iexact H6
  isplitl [H3]; · iexact H3
  isplitl [H7]; · iexact H7
  isplitl [H11]; · iexact H11
  isplitl [H12]; · iexact H12
  isplitl [H13]; · iexact H13
  isplitl [H14]; · iexact H14
  iintro ⟨H2, H4, H5, H6, H3, H7, H11, H12, H13, H14⟩
  isplitl [H11 H12 H13 H14 Hr]
  · iexists _; iexists _; iexists _; iexists _
    isplitr; swap
    · isplitl [H11]; · iexact H11
      isplitl [H12]; · iexact H12
      isplitl [H13]; · iexact H13
      isplitl [H14]; · iexact H14
      iexact Hr
    · ipureintro
      rw [h0]; exact inv_first (grid0.coords t) (by rw [(place t).1]; omega) hI (h0 ▸ isTile_2 m c t (by omega) d2) (h0 ▸ isTile_3 m c t (by omega) d3) (h0 ▸ isTile_4 m c t (by omega) d4)
  isplitl [Ho]; · iexact Ho
  isplitl [H2]; · iapply (leaves_0 m c t); iexact H2
  isplitl [H3]; · iapply (leaves_1 m c t); iexact H3
  isplitl [H4]; · iapply (leaves_2 m c t d2); iexact H4
  isplitl [H5]; · iapply (leaves_3 m c t d3); iexact H5
  isplitl [H6]; · iapply (leaves_4 m c t d4); iexact H6
  isplitl [H7]; · iapply (leaves_5 m c t h0); iexact H7
  isplitl [H8]; · iapply (leaves_6 m c t (by omega) d6); iexact H8
  isplitl [H9]; · iapply (leaves_7 m c t (by omega) d7); iexact H9
  iapply (leaves_8 m c t (by omega) d8); iexact H10

/-- A later point of the first phase but its last. -/
theorem keeps_middle (c : Dev nD) (t : Fin cfg0.N) (h0 : t.val ≠ 0) (h7 : t.val < 7) : Keeps m c t := by
  unfold Keeps
  rw [bigSep_W0, bigSep_W0]
  rw [show (dats m 0 c).Φ t.castSucc = held m c t.val from rfl, show (dats m 0 c).Φ t.succ = held m c (t.val + 1) from rfl,
    show (dats m 0 c).owesAt () t.succ = (dats m 0 c).owesAt () t.castSucc from rfl]
  unfold held
  simp only [before_0, before_1, before_2, before_3, before_4]
  iintro ⟨⟨%X11, %X12, %X13, %S, %hI, H11, H12, H13, H14, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  iapply (run_middle (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => h0 ((place t).2.1.mp h)) ((place t).2.2.1.mpr (by omega)) (fun h => absurd ((place t).2.2.2.1.mp h) (by omega)) ((place t).2.2.2.2.1.mpr (by omega)) (fun h => absurd ((place t).2.2.2.2.2.mp h) (by omega)) (rows m c) (win0_2.fill (grid0.coords t) d2 (iblk m c 2 t)) (win0_3.fill (grid0.coords t) d3 (iblk m c 3 t)) (win0_4.fill (grid0.coords t) d4 (iblk m c 4 t)) X11 X12 X13 S _)
  isplitl [H2]; · iexact H2
  isplitl [H4]; · iexact H4
  isplitl [H5]; · iexact H5
  isplitl [H6]; · iexact H6
  isplitl [H11]; · iexact H11
  isplitl [H12]; · iexact H12
  isplitl [H13]; · iexact H13
  isplitl [H14]; · iexact H14
  iintro ⟨H2, H4, H5, H6, H11, H12, H13, H14⟩
  isplitl [H11 H12 H13 H14 Hr]
  · iexists _; iexists _; iexists _; iexists _
    isplitr; swap
    · isplitl [H11]; · iexact H11
      isplitl [H12]; · iexact H12
      isplitl [H13]; · iexact H13
      isplitl [H14]; · iexact H14
      iexact Hr
    · ipureintro
      exact inv_middle (grid0.coords t) (by rw [(place t).1]; omega) h0 h7 hI (isTile_2 m c t (by omega) d2) (isTile_3 m c t (by omega) d3) (isTile_4 m c t (by omega) d4)
  isplitl [Ho]; · iexact Ho
  isplitl [H2]; · iapply (leaves_0 m c t); iexact H2
  isplitl [H3]; · iapply (leaves_1 m c t); iexact H3
  isplitl [H4]; · iapply (leaves_2 m c t d2); iexact H4
  isplitl [H5]; · iapply (leaves_3 m c t d3); iexact H5
  isplitl [H6]; · iapply (leaves_4 m c t d4); iexact H6
  isplitl [H7]; · iapply (leaves_5' m c t (by omega) d5); iexact H7
  isplitl [H8]; · iapply (leaves_6 m c t (by omega) d6); iexact H8
  isplitl [H9]; · iapply (leaves_7 m c t (by omega) d7); iexact H9
  iapply (leaves_8 m c t (by omega) d8); iexact H10

/-- The last point of the first phase. -/
theorem keeps_last (c : Dev nD) (t : Fin cfg0.N) (h0 : t.val = 7) : Keeps m c t := by
  unfold Keeps
  rw [bigSep_W0, bigSep_W0]
  rw [show (dats m 0 c).Φ t.castSucc = held m c t.val from rfl, show (dats m 0 c).Φ t.succ = held m c (t.val + 1) from rfl,
    show (dats m 0 c).owesAt () t.succ = (dats m 0 c).owesAt () t.castSucc from rfl]
  unfold held
  simp only [before_0, before_1, before_2, before_3, before_4]
  iintro ⟨⟨%X11, %X12, %X13, %S, %hI, H11, H12, H13, H14, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  have hI := h0 ▸ hI
  iapply (run_last (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => absurd ((place t).2.1.mp h) (by omega)) ((place t).2.2.1.mpr (by omega)) (fun h => absurd ((place t).2.2.2.1.mp h) (by omega)) (fun h => absurd ((place t).2.2.2.2.1.mp h) (by omega)) ((place t).2.2.2.2.2.mpr (by omega)) (rows m c) (win0_2.fill (grid0.coords t) d2 (iblk m c 2 t)) (win0_3.fill (grid0.coords t) d3 (iblk m c 3 t)) (win0_4.fill (grid0.coords t) d4 (iblk m c 4 t)) X11 X12 X13 S _)
  isplitl [H2]; · iexact H2
  isplitl [H4]; · iexact H4
  isplitl [H5]; · iexact H5
  isplitl [H6]; · iexact H6
  isplitl [H11]; · iexact H11
  isplitl [H12]; · iexact H12
  isplitl [H13]; · iexact H13
  isplitl [H14]; · iexact H14
  iintro ⟨H2, H4, H5, H6, H11, H12, H13, H14⟩
  isplitl [H11 H12 H13 H14 Hr]
  · iexists _; iexists _; iexists _; iexists _
    isplitr; swap
    · isplitl [H11]; · iexact H11
      isplitl [H12]; · iexact H12
      isplitl [H13]; · iexact H13
      isplitl [H14]; · iexact H14
      iexact Hr
    · ipureintro
      rw [h0]; exact inv_last (grid0.coords t) (by rw [(place t).1]; omega) hI (h0 ▸ isTile_2 m c t (by omega) d2) (h0 ▸ isTile_3 m c t (by omega) d3) (h0 ▸ isTile_4 m c t (by omega) d4)
  isplitl [Ho]; · iexact Ho
  isplitl [H2]; · iapply (leaves_0 m c t); iexact H2
  isplitl [H3]; · iapply (leaves_1 m c t); iexact H3
  isplitl [H4]; · iapply (leaves_2 m c t d2); iexact H4
  isplitl [H5]; · iapply (leaves_3 m c t d3); iexact H5
  isplitl [H6]; · iapply (leaves_4 m c t d4); iexact H6
  isplitl [H7]; · iapply (leaves_5' m c t (by omega) d5); iexact H7
  isplitl [H8]; · iapply (leaves_6 m c t (by omega) d6); iexact H8
  isplitl [H9]; · iapply (leaves_7 m c t (by omega) d7); iexact H9
  iapply (leaves_8 m c t (by omega) d8); iexact H10

/-- The points of the second phase. -/
theorem keeps_second (c : Dev nD) (t : Fin cfg0.N) (h0 : 8 ≤ t.val) : Keeps m c t := by
  unfold Keeps
  rw [bigSep_W0, bigSep_W0]
  rw [show (dats m 0 c).Φ t.castSucc = held m c t.val from rfl, show (dats m 0 c).Φ t.succ = held m c (t.val + 1) from rfl,
    show (dats m 0 c).owesAt () t.succ = (dats m 0 c).owesAt () t.castSucc from rfl]
  unfold held
  simp only [before_0, before_1, before_2, before_3, before_4]
  iintro ⟨⟨%X11, %X12, %X13, %S, %hI, H11, H12, H13, H14, Hr⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩⟩
  iapply (run_second (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h => absurd ((place t).2.1.mp h) (by omega)) (fun h => absurd ((place t).2.2.1.mp h) (by omega)) ((place t).2.2.2.1.mpr h0) ((dats m 0 c).before 6 t d6) ((dats m 0 c).before 7 t d7) ((dats m 0 c).before 8 t d8) X11 X12 X13 S _)
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H8, H9, H10, H11, H12, H13, H14⟩
  isplitl [H11 H12 H13 H14 Hr]
  · iexists _; iexists _; iexists _; iexists _
    isplitr; swap
    · isplitl [H11]; · iexact H11
      isplitl [H12]; · iexact H12
      isplitl [H13]; · iexact H13
      isplitl [H14]; · iexact H14
      iexact Hr
    · ipureintro
      exact inv_second h0 hI
  isplitl [Ho]; · iexact Ho
  isplitl [H2]; · iapply (leaves_0 m c t); iexact H2
  isplitl [H3]; · iapply (leaves_1 m c t); iexact H3
  isplitl [H4]; · iapply (leaves_2 m c t d2); iexact H4
  isplitl [H5]; · iapply (leaves_3 m c t d3); iexact H5
  isplitl [H6]; · iapply (leaves_4 m c t d4); iexact H6
  isplitl [H7]; · iapply (leaves_5' m c t (by omega) d5); iexact H7
  isplitl [H8]; · iapply (leaves_6' m c t h0 _ (results_6 m h0 ((place t).2.2.2.1.mpr h0) hI)); iexact H8
  isplitl [H9]; · iapply (leaves_7' m c t h0 _ (results_7 m h0 ((place t).2.2.2.1.mpr h0) hI)); iexact H9
  iapply (leaves_8' m c t h0 _ (results_8 m h0 ((place t).2.2.2.1.mpr h0) hI)); iexact H10

/-- The body keeps the data's terms at every point. -/
theorem body_keeps (c : Dev nD) : Pipeline.BodyObligationLoose (dats m 0 c) (defs₀ (F := Ideal)) Variants.none () Set.univ := fun t => by
  have hK : Keeps m c t := by
    by_cases h0 : t.val = 0
    · exact keeps_first m c t h0
    by_cases h7 : t.val < 7
    · exact keeps_middle m c t h0 h7
    by_cases h8 : 8 ≤ t.val
    · exact keeps_second m c t h8
    · exact keeps_last m c t (by omega)
  exact hK

end Cert.KernelIdeal.Body

end
-- ==== Proof.Value.lean ====
/-
  The kernel's run at exact values: every fair execution stops, with each result array a function of the arguments.
-/
module

public import proofs.«01_k».proof.Proof.ValueBody

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

local notation "𝕄" => MT nD τ sig Unit (Elt Ideal) ℕ (UR sig nD τ) ℕ

variable (m : (ℓ : Loc nD τ sig) → Buf (Elt Ideal) ℓ) (ρ : Dev nD → PrngReg)

/-- The scratch as the region finds it is what the data asks for at the start. -/
theorem enter (c : Dev nD) : (Pipeline.ΦA spec0 c : sProp 𝕄) ⊢ held m c 0 := by
  unfold Pipeline.ΦA held
  rw [scratch_held]
  iintro ⟨⟨⟨%f11, H11⟩, ⟨%f12, H12⟩, ⟨%f13, H13⟩, ⟨%f14, H14⟩⟩, Hr⟩
  iexists f11; iexists f12; iexists f13; iexists f14
  isplitr; swap
  · isplitl [H11]; · iexact H11
    isplitl [H12]; · iexact H12
    isplitl [H13]; · iexact H13
    isplitl [H14]; · iexact H14
    iexact Hr
  · ipureintro
    exact inv_zero f11 f12 f13 f14

/-- What the data says at the end is more than the region asks for. -/
theorem leave (c : Dev nD) (n : ℕ) : held m c n ⊢ (Pipeline.ΦA spec0 c : sProp 𝕄) := by
  unfold Pipeline.ΦA held
  rw [scratch_held]
  iintro ⟨%f11, %f12, %f13, %f14, -, H11, H12, H13, H14, Hr⟩
  isplitr [Hr]
  · isplitl [H11]; · iexists f11; iexact H11
    isplitl [H12]; · iexists f12; iexact H12
    isplitl [H13]; · iexists f13; iexact H13
    iexists f14; iexact H14
  · iexact Hr

set_option backward.isDefEq.respectTransparency.types false in
/-- The run: the region's arrays end as the data says, everything else as the operations after the region leave it. -/
theorem run_arrays :
    θ_run defs (onTc (τ := τ) (main (F := Ideal))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (body_keeps m) (fun c => (dats m 0 c).share_full fun _ => rfl) (fun _ _ => rfl) (V0 m) [hostOps1]
    sfx_sub sfx_fresh sfx_keeps (hmain m Variants.none) (fun _ _ => rfl) (enter m) (fun c => leave m c _)

/-! ## The arrays -/

/-- A head's result array. -/
def result (c : Dev nD) (W : FVec Ideal S100000x128 .f32) : FVec Ideal S8x100000 .f32 := fun i => prob (rows m c) W (i 0) (i 1).val

/-- The first head's result array, tile by tile. -/
theorem array_6 (c : Dev nD) : (dats m 0 c).arrAt 6 cfg0.N = result m c (head1 m c) :=
  (dats m 0 c).arrAt_eq_of_covers 6 (result m c (head1 m c)) (by decide +kernel) fun t hf y => by
    blk_simp [idx t]
    rw [after_6]
    have h0 : ((win0_6.blk t).view.emb y 0).val = (y 0).val := by
      refine (Pipeline.Window.rect_emb_val win0_6 t y 0 rfl).trans ?_
      rw [(idx t).2.2.2.2.2.2.1]
      exact Nat.zero_add _
    have h1 : ((win0_6.blk t).view.emb y 1).val = (t.val - 8) * 12800 + (y 1).val := by
      refine (Pipeline.Window.rect_emb_val win0_6 t y 1 rfl).trans ?_
      rw [(idx t).2.2.2.2.2.2.1]
      rfl
    exact congrArg₂ (prob (rows m c) (head1 m c)) (Fin.ext h0.symm) h1.symm

/-- The second head's result array. -/
theorem array_7 (c : Dev nD) : (dats m 0 c).arrAt 7 cfg0.N = result m c (head2 m c) :=
  (dats m 0 c).arrAt_eq_of_covers 7 (result m c (head2 m c)) (by decide +kernel) fun t hf y => by
    blk_simp [idx t]
    rw [after_7]
    have h0 : ((win0_7.blk t).view.emb y 0).val = (y 0).val := by
      refine (Pipeline.Window.rect_emb_val win0_7 t y 0 rfl).trans ?_
      rw [(idx t).2.2.2.2.2.2.2.1]
      exact Nat.zero_add _
    have h1 : ((win0_7.blk t).view.emb y 1).val = (t.val - 8) * 12800 + (y 1).val := by
      refine (Pipeline.Window.rect_emb_val win0_7 t y 1 rfl).trans ?_
      rw [(idx t).2.2.2.2.2.2.2.1]
      rfl
    exact congrArg₂ (prob (rows m c) (head2 m c)) (Fin.ext h0.symm) h1.symm

/-- The third head's result array. -/
theorem array_8 (c : Dev nD) : (dats m 0 c).arrAt 8 cfg0.N = result m c (head3 m c) :=
  (dats m 0 c).arrAt_eq_of_covers 8 (result m c (head3 m c)) (by decide +kernel) fun t hf y => by
    blk_simp [idx t]
    rw [after_8]
    have h0 : ((win0_8.blk t).view.emb y 0).val = (y 0).val := by
      refine (Pipeline.Window.rect_emb_val win0_8 t y 0 rfl).trans ?_
      rw [(idx t).2.2.2.2.2.2.2.2]
      exact Nat.zero_add _
    have h1 : ((win0_8.blk t).view.emb y 1).val = (t.val - 8) * 12800 + (y 1).val := by
      refine (Pipeline.Window.rect_emb_val win0_8 t y 1 rfl).trans ?_
      rw [(idx t).2.2.2.2.2.2.2.2]
      rfl
    exact congrArg₂ (prob (rows m c) (head3 m c)) (Fin.ext h0.symm) h1.symm

/-- The region's array of the shared output. -/
theorem array_5 (c : Dev nD) : (dats m 0 c).arrAt 5 cfg0.N = k0_pay1 (F := Ideal) (rows m c) (shared m c) :=
  (dats m 0 c).arrAt_eq_of_covers 5 (k0_pay1 (F := Ideal) (rows m c) (shared m c)) (by decide +kernel) fun t hf y => by
    blk_simp [idx t]
    rw [after_5]
    refine congrArg (k0_pay1 (F := Ideal) (rows m c) (shared m c)) (funext fun a => Fin.ext ?_)
    refine ((Pipeline.Window.rect_emb_val win0_5 t y a rfl).trans ?_).symm
    rw [(idx t).2.2.2.2.2.1]
    fin_cases a <;> exact Nat.zero_add _

/-- Adding a first axis of one element does not move an entry. -/
theorem shapeCast_at (Y : FVec Ideal S8x128 .f32) (h) (r : Fin 8) (e : Fin 128) : shapeCast S1x8x128 Y h (ix3 0 r e) = Y (ix2 r e) := by
  pointwise

/-- The first result array holds the shared output. -/
theorem tail_out (c : Dev nD) (r : Fin 8) (e : Fin 128) :
    (show FVec Ideal S1x8x128 .f32 from Pipeline.afterTail₀ cfgs (dats m) 0 (V0 m) [hostOps1] c main_v0_0) (ix3 0 r e)
      = k0_pay1 (F := Ideal) (rows m c) (shared m c) (ix2 r e) := by
  unfold Pipeline.afterTail₀
  simp only [List.flatten_cons, List.flatten_nil, List.append_nil]
  unfold hostOps1
  after_region_results
  erw [Pipeline.withArrays_arr spec0 launch0.win.arr_inj c (V0 m c) _ 5]
  refine (shapeCast_at ((dats m 0 c).arrAt 5 cfg0.N) shapeCasts_S8x128_S1x8x128 r e).trans ?_
  rw [array_5]

/-! ## The operands the operations before the region make -/

/-- The rows' argument. -/
abbrev xArg (c : Dev nD) : FVec Ideal S1x8x128 .f32 := m ((c : Thread nD τ).loc main_arg0)

/-- The shared weights' argument. -/
abbrev outArg (c : Dev nD) : FVec Ideal S128x128 .f32 := m ((c : Thread nD τ).loc main_arg1)

/-- The first head's argument. -/
abbrev headArg1 (c : Dev nD) : FVec Ideal S128x100000 .f32 := m ((c : Thread nD τ).loc main_arg2)

/-- The second head's argument. -/
abbrev headArg2 (c : Dev nD) : FVec Ideal S128x100000 .f32 := m ((c : Thread nD τ).loc main_arg3)

/-- The third head's argument. -/
abbrev headArg3 (c : Dev nD) : FVec Ideal S128x100000 .f32 := m ((c : Thread nD τ).loc main_arg4)

/-- Dropping a first axis of one element does not move an entry. -/
theorem flat_at (X : FVec Ideal S1x8x128 .f32) (h) (r : Fin 8) (k : Fin 128) : shapeCast S8x128 X h (ix2 r k) = X (ix3 0 r k) := by
  pointwise
/-- A transposed matrix at an entry. -/
theorem turned_at (X : FVec Ideal S128x100000 .f32) (h) (n : Fin 100000) (k : Fin 128) :
    transpose S100000x128 [1, 0] X h (ix2 n k) = X (ix2 k n) := by
  pointwise

/-- The rows are the first argument's. -/
theorem rows_at (c : Dev nD) (r : Fin 8) (k : Fin 128) : rows m c (ix2 r k) = xArg m c (ix3 0 r k) := by
  have e : rows m c = shapeCast S8x128 (xArg m c) shapeCasts_S1x8x128_S8x128 := by
    unfold rows V V0
    simp only [List.flatten_cons, List.flatten_nil, List.append_nil]
    unfold hostOps0
    after_results
    rfl
  rw [e]
  exact flat_at _ _ r k

/-- Head 1's weights row by row are its argument's columns. -/
theorem head1_at (c : Dev nD) (n : Fin 100000) (k : Fin 128) : head1 m c (ix2 n k) = headArg1 m c (ix2 k n) := by
  have e : head1 m c = transpose S100000x128 [1, 0] (headArg1 m c) transposes_S128x100000_S100000x128_1_0 := by
    unfold head1 V V0
    simp only [List.flatten_cons, List.flatten_nil, List.append_nil]
    unfold hostOps0
    after_results
    rfl
  rw [e]
  exact turned_at _ _ n k

/-- Head 2's weights row by row are its argument's columns. -/
theorem head2_at (c : Dev nD) (n : Fin 100000) (k : Fin 128) : head2 m c (ix2 n k) = headArg2 m c (ix2 k n) := by
  have e : head2 m c = transpose S100000x128 [1, 0] (headArg2 m c) transposes_S128x100000_S100000x128_1_0 := by
    unfold head2 V V0
    simp only [List.flatten_cons, List.flatten_nil, List.append_nil]
    unfold hostOps0
    after_results
    rfl
  rw [e]
  exact turned_at _ _ n k

/-- Head 3's weights row by row are its argument's columns. -/
theorem head3_at (c : Dev nD) (n : Fin 100000) (k : Fin 128) : head3 m c (ix2 n k) = headArg3 m c (ix2 k n) := by
  have e : head3 m c = transpose S100000x128 [1, 0] (headArg3 m c) transposes_S128x100000_S100000x128_1_0 := by
    unfold head3 V V0
    simp only [List.flatten_cons, List.flatten_nil, List.append_nil]
    unfold hostOps0
    after_results
    rfl
  rw [e]
  exact turned_at _ _ n k

/-- The shared weights are the second argument. -/
theorem shared_eq (c : Dev nD) : shared m c = outArg m c := V_main_arg1 m c

end Cert.KernelIdeal.Body

end
-- ==== Proof.RefValue.lean ====
/-
  The reference's results at one index, over the extended reals: the tanh of a row product, and a softmax (with the row's
  greatest logit taken off, then divided by the sum of the exponentials) divided by its own row sum.
-/
module

public import proofs.«01_k».proof.Proof.Gen.ReferenceIdeal
public import Idealize.ShloMosaic.Lib.Pointwise

@[expose] public section

set_option maxRecDepth 16384

noncomputable section

namespace Cert.ReferenceIdeal.Value

open Cert.ReferenceIdeal Cert.ReferenceIdeal.Gen
open Idealize.ShloMosaic
open Idealize.ShloMosaic.TcCoe

/-- One head's logits. -/
def logits (X : FVec Ideal S1x8x128 .f32) (W : FVec Ideal S128x100000 .f32) : FVec Ideal S1x8x100000 .f32 :=
  Host.dotGeneral dot_S1x8x128_S128x100000_S1x8x100000_2_0_01_1_n_n none X W

/-- The greatest logit of each row. -/
def top (L : FVec Ideal S1x8x100000 .f32) : FVec Ideal S1x8 .f32 :=
  maximumf (broadcastInDim S1x8 ![] bcast_S_S1x8 (constant S_ .f32 0xFF800000#32)) (Host.reduce FloatOps.maximumf L (constant S_ .f32 0xFF800000#32) reducesTo_S1x8x100000_S1x8_d2 h_S_)

/-- The exponentials of the logits with `M` taken off row by row. -/
def expo (L : FVec Ideal S1x8x100000 .f32) (M : FVec Ideal S1x8 .f32) : FVec Ideal S1x8x100000 .f32 :=
  Host.exp (subf L (broadcastInDim S1x8x100000 ![0, 1, 2] bcast_S1x8x1_S1x8x100000_0_1_2 (broadcastInDim S1x8x1 ![0, 1] bcast_S1x8_S1x8x1_0_1 M)))

/-- `E` divided by its row sums. -/
def share (E : FVec Ideal S1x8x100000 .f32) : FVec Ideal S1x8x100000 .f32 :=
  Host.divf E (broadcastInDim S1x8x100000 ![0, 1, 2] bcast_S1x8x1_S1x8x100000_0_1_2 (broadcastInDim S1x8x1 ![0, 1] bcast_S1x8_S1x8x1_0_1 (Host.reduceAdd E (constant S_ .f32 0x00000000#32) reducesTo_S1x8x100000_S1x8_d2 h_S_)))

/-- `P` as a matrix, divided by its row sums once more. -/
def again (P : FVec Ideal S1x8x100000 .f32) : FVec Ideal S8x100000 .f32 :=
  Host.divf (shapeCast _ P shapeCasts_S1x8x100000_S8x100000) (broadcastInDim S8x100000 ![0, 1] bcast_S8x1_S8x100000_0_1 (broadcastInDim S8x1 ![0] bcast_S8_S8x1_0 (Host.reduceAdd (shapeCast _ P shapeCasts_S1x8x100000_S8x100000) (constant S_ .f32 0x00000000#32) reducesTo_S8x100000_S8_d1 h_S_)))

/-- One head's probabilities. -/
def head (X : FVec Ideal S1x8x128 .f32) (W : FVec Ideal S128x100000 .f32) : FVec Ideal S8x100000 .f32 :=
  again (share (expo (logits X W) (top (logits X W))))

/-- The shared output. -/
def output (X : FVec Ideal S1x8x128 .f32) (W : FVec Ideal S128x128 .f32) : FVec Ideal S1x8x128 .f32 :=
  Host.tanh (Host.dotGeneral dot_S1x8x128_S128x128_S1x8x128_2_0_01_1_n_n none X W)

/-! ## At an index -/

/-- The shared output at an index. -/
theorem output_at (X : FVec Ideal S1x8x128 .f32) (W : FVec Ideal S128x128 .f32) (r : Fin 8) (e : Fin 128) :
    output X W (ix3 0 r e) = Ideal.tanh (∑ k : Fin 128, X (ix3 0 r k) * W (ix2 k e)) := by
  pointwise [output]

/-- A logit is a row times a column. -/
theorem logits_at (X : FVec Ideal S1x8x128 .f32) (W : FVec Ideal S128x100000 .f32) (r : Fin 8) (j : Fin 100000) :
    logits X W (ix3 0 r j) = ∑ k : Fin 128, X (ix3 0 r k) * W (ix2 k j) := by
  pointwise [logits]

/-- The greatest logit is a maximum over the row. -/
theorem top_at (L : FVec Ideal S1x8x100000 .f32) (r : Fin 8) :
    top L (ix2 0 r) = max (⊥ : EReal) (Finset.univ.fold max ⊥ fun j : Fin 100000 => L (ix3 0 r j)) := by
  have hb : Ideal.ofBits .f32 0xFF800000#32 = ⊥ := by simp [Ideal.ofBits, Ideal.ieee]
  pointwise [top]
  rw [hb]

/-- An exponential at an index. -/
theorem expo_at (L : FVec Ideal S1x8x100000 .f32) (M : FVec Ideal S1x8 .f32) (r : Fin 8) (j : Fin 100000) :
    expo L M (ix3 0 r j) = Ideal.exp ((show EReal from L (ix3 0 r j)) - (show EReal from M (ix2 0 r))) := by
  pointwise [expo]

/-- A quotient by the row sum at an index. -/
theorem share_at (E : FVec Ideal S1x8x100000 .f32) (r : Fin 8) (j : Fin 100000) :
    share E (ix3 0 r j) = Ideal.div (E (ix3 0 r j)) (0 + ∑ i : Fin 100000, (show EReal from E (ix3 0 r i))) := by
  pointwise [share]

/-- The second quotient by the row sum at an index. -/
theorem again_at (P : FVec Ideal S1x8x100000 .f32) (r : Fin 8) (j : Fin 100000) :
    again P (ix2 r j) = Ideal.div (P (ix3 0 r j)) (0 + ∑ i : Fin 100000, (show EReal from P (ix3 0 r i))) := by
  pointwise [again]

end Cert.ReferenceIdeal.Value

end
-- ==== Proof.Softmax.lean ====
/-
  Softmax over the extended reals, without programs: an exponential times the inverse of the sum of all of them is the same
  value as the softmax that first takes the greatest logit off and then normalizes twice, whatever the logits (infinite ones
  too); and the sum over a row is the sum, lane by lane, of the tiles' shares.
-/
module

public import Idealize.ShloMosaic.Lib.Pointwise

@[expose] public section

noncomputable section

namespace Cert.Softmax

open Idealize.ShloMosaic

/-- An exponential is not negative. -/
theorem exp_nonneg (x : EReal) : 0 ≤ Ideal.exp x := by
  induction x with
  | bot => simp
  | top => simp
  | coe x => simpa using (Real.exp_pos x).le

/-- A sum of nonnegative terms with an infinite one is infinite. -/
theorem sum_top {ι : Type} [Fintype ι] [DecidableEq ι] (f : ι → EReal) (h0 : ∀ i, 0 ≤ f i) (i : ι) (h : f i = ⊤) : ∑ k, f k = ⊤ := by
  rw [← Finset.add_sum_erase _ _ (Finset.mem_univ i), h]
  exact EReal.top_add_of_ne_bot (ne_of_gt (lt_of_lt_of_le EReal.bot_lt_zero (Finset.sum_nonneg fun k _ => h0 k)))

/-- A sum with a term at `⊥` is `⊥`. -/
theorem sum_bot {ι : Type} [Fintype ι] [DecidableEq ι] (f : ι → EReal) (i : ι) (h : f i = ⊥) : ∑ k, f k = ⊥ := by
  rw [← Finset.add_sum_erase _ _ (Finset.mem_univ i), h, EReal.bot_add]

/-- A sum of reals is the real sum. -/
theorem sum_coe {ι : Type} [Fintype ι] (f : ι → ℝ) : ∑ k, (f k : EReal) = ((∑ k, f k : ℝ) : EReal) :=
  (map_sum (⟨⟨Real.toEReal, EReal.coe_zero⟩, EReal.coe_add⟩ : ℝ →+ EReal) f Finset.univ).symm

/-- Dividing reals by a real that is not zero is real division. -/
theorem div_real (x : ℝ) {y : ℝ} (h : y ≠ 0) : Ideal.div (x : EReal) (y : EReal) = ((x / y : ℝ) : EReal) := by
  rw [Ideal.div_coe h, ← EReal.coe_mul, mul_one_div]

/-- Zero by zero is `⊥`. -/
theorem div_zero_zero : Ideal.div 0 0 = ⊥ := by simp [Ideal.div]

/-- `⊥` by `⊥` is zero. -/
theorem div_bot_bot : Ideal.div ⊥ ⊥ = 0 := by simp [Ideal.div]

section

variable {ι : Type} [Fintype ι] [DecidableEq ι]

/-- The greatest logit is one of the logits. -/
theorem max_spec [Nonempty ι] (l : ι → EReal) :
    (∀ i, l i ≤ max ⊥ (Finset.univ.fold max ⊥ l)) ∧ ∃ i, l i = max ⊥ (Finset.univ.fold max ⊥ l) := by
  have e : max ⊥ (Finset.univ.fold max ⊥ l) = Finset.univ.sup l := by
    rw [max_eq_right bot_le]; rfl
  rw [e]
  refine ⟨fun i => Finset.le_sup (Finset.mem_univ i), ?_⟩
  obtain ⟨i, _, hi⟩ := Finset.exists_mem_eq_sup Finset.univ Finset.univ_nonempty l
  exact ⟨i, hi.symm⟩

/-- When every exponential is zero, normalizing twice gives zero. -/
theorem twice_zero (e : ι → EReal) (h : ∀ i, e i = 0) (j : ι) :
    Ideal.div (Ideal.div (e j) (0 + ∑ i, e i)) (0 + ∑ k, Ideal.div (e k) (0 + ∑ i, e i)) = 0 := by
  have hs : ∑ i, e i = 0 := Finset.sum_eq_zero fun i _ => h i
  simp only [h, hs, zero_add, Finset.sum_const_zero, div_zero_zero]
  rw [sum_bot (fun _ : ι => (⊥ : EReal)) j rfl, div_bot_bot]

/-- The kernel's quotient is the reference's, for any bound `M` that is one of the logits. -/
theorem quotient (l : ι → EReal) (M : EReal) (hle : ∀ i, l i ≤ M) (hex : ∃ i, l i = M) (j : ι) :
    Ideal.exp (l j) * Ideal.div 1 (∑ i, Ideal.exp (l i))
      = Ideal.div (Ideal.div (Ideal.exp (l j - M)) (0 + ∑ i, Ideal.exp (l i - M)))
          (0 + ∑ k, Ideal.div (Ideal.exp (l k - M)) (0 + ∑ i, Ideal.exp (l i - M))) := by
  obtain ⟨i₀, hi₀⟩ := hex
  induction M with
  | top =>
    rw [twice_zero (fun i => Ideal.exp (l i - ⊤)) (fun i => by show Ideal.exp (l i - ⊤) = 0; rw [sub_eq_add_neg, EReal.neg_top, EReal.add_bot]; rfl),
      sum_top _ (fun i => exp_nonneg (l i)) i₀ (by rw [hi₀]; rfl)]
    simp [Ideal.div]
  | bot =>
    have hb : ∀ i, l i = ⊥ := fun i => le_bot_iff.mp (hle i)
    rw [twice_zero (fun i => Ideal.exp (l i - ⊥)) (fun i => by show Ideal.exp (l i - ⊥) = 0; rw [hb i]; rfl), hb j, Ideal.exp_bot, zero_mul]
  | coe a =>
    obtain ⟨y, hy⟩ : ∃ y : ι → ℝ, ∀ i, 0 ≤ y i ∧ Ideal.exp (l i) = (y i : EReal)
        ∧ Ideal.exp (l i - (a : EReal)) = ((y i * Real.exp (-a) : ℝ) : EReal) := by
      refine ⟨fun i => (Ideal.exp (l i)).toReal, fun i => ?_⟩
      have h := hle i
      show 0 ≤ (Ideal.exp (l i)).toReal ∧ Ideal.exp (l i) = ((Ideal.exp (l i)).toReal : EReal)
        ∧ Ideal.exp (l i - (a : EReal)) = (((Ideal.exp (l i)).toReal * Real.exp (-a) : ℝ) : EReal)
      generalize l i = x at h
      induction x with
      | bot => simp
      | top => exact absurd h (by simp)
      | coe x =>
        refine ⟨by simpa using (Real.exp_pos x).le, by simp, ?_⟩
        rw [← EReal.coe_sub, Ideal.exp_coe, Ideal.exp_coe, EReal.toReal_coe, ← Real.exp_add, sub_eq_add_neg]
    have hY : 0 < ∑ i, y i := by
      refine Finset.sum_pos' (fun i _ => (hy i).1) ⟨i₀, Finset.mem_univ _, ?_⟩
      have h := (hy i₀).2.1
      rw [hi₀, Ideal.exp_coe] at h
      rw [← EReal.coe_eq_coe_iff.mp h]
      exact Real.exp_pos a
    have hc : 0 < Real.exp (-a) := Real.exp_pos _
    have e1 : ∑ i, Ideal.exp (l i) = ((∑ i, y i : ℝ) : EReal) := by
      rw [← sum_coe]; exact Finset.sum_congr rfl fun i _ => (hy i).2.1
    have e2 : (0 : EReal) + ∑ i, Ideal.exp (l i - (a : EReal)) = (((∑ i, y i) * Real.exp (-a) : ℝ) : EReal) := by
      rw [zero_add, Finset.sum_mul, ← sum_coe]; exact Finset.sum_congr rfl fun i _ => (hy i).2.2
    have e3 : ∀ k, Ideal.div (Ideal.exp (l k - (a : EReal))) (0 + ∑ i, Ideal.exp (l i - (a : EReal)))
        = ((y k / ∑ i, y i : ℝ) : EReal) := fun k => by
      rw [e2, (hy k).2.2, div_real _ (mul_pos hY hc).ne', mul_div_mul_right _ _ hc.ne']
    have e4 : (0 : EReal) + ∑ k, Ideal.div (Ideal.exp (l k - (a : EReal))) (0 + ∑ i, Ideal.exp (l i - (a : EReal))) = ((1 : ℝ) : EReal) := by
      rw [zero_add, Finset.sum_congr rfl fun k _ => e3 k, sum_coe, ← Finset.sum_div, div_self hY.ne']
    rw [e4, e3, e1, (hy j).2.1, ← EReal.coe_one, div_real _ hY.ne', div_real _ one_ne_zero, ← EReal.coe_mul, mul_one_div, div_one]

end

/-- A row's sum, lane by lane: lane `l` collects the columns `12800 t + 128 s + l`; columns past the row count for nothing. -/
theorem sum_lanes (f : ℕ → EReal) (hf : ∀ n, 100000 ≤ n → f n = 0) :
    ∑ l : Fin 128, ∑ t ∈ Finset.range 8, ∑ s : Fin 100, f (t * 12800 + (s.val * 128 + l.val)) = ∑ j : Fin 100000, f j.val := by
  have h1 : ∑ j : Fin 100000, f j.val = ∑ j : Fin (8 * 12800), f j.val := by
    rw [Fin.sum_univ_eq_sum_range f 100000, Fin.sum_univ_eq_sum_range f (8 * 12800)]
    exact Finset.sum_subset (fun n hn => Finset.mem_range.mpr (lt_trans (Finset.mem_range.mp hn) (by norm_num)))
      fun n _ hn => hf n (not_lt.mp fun h => hn (Finset.mem_range.mpr h))
  have h2 : ∀ t : Fin 8, ∑ k : Fin 12800, f (t.val * 12800 + k.val) = ∑ s : Fin 100, ∑ l : Fin 128, f (t.val * 12800 + (s.val * 128 + l.val)) :=
    fun t => Fin.sum_univ_tiles 100 128 rfl fun k : Fin 12800 => f (t.val * 12800 + k.val)
  rw [h1, Fin.sum_univ_tiles 8 12800 rfl fun j : Fin (8 * 12800) => f j.val, Finset.sum_comm,
    ← Fin.sum_univ_eq_sum_range (fun t => ∑ l : Fin 128, ∑ s : Fin 100, f (t * 12800 + (s.val * 128 + l.val))) 8]
  refine Finset.sum_congr rfl fun t _ => ?_
  rw [h2 t, Finset.sum_comm]

end Cert.Softmax

end
-- ==== Proof.Equal.lean ====
/-
  The two programs' results agree at exact values, and with that the algebraic claim: for every head the exponentials divided
  by their sum are the reference's softmax divided by its own sum, infinities included.
-/
module

public import proofs.«01_k».proof.Proof.Value
public import proofs.«01_k».proof.Proof.RefValue
public import proofs.«01_k».proof.Proof.Softmax
public import proofs.«01_k».proof.Proof.Gen.ReferenceIdeal.Run

@[expose] public section

set_option maxRecDepth 16384

noncomputable section

namespace Cert.Equal

open Idealize.ShloMosaic Idealize.SL.Sem
open Idealize.ShloMosaic.TcCoe
open Cert.KernelIdeal.Body
open Cert.ReferenceIdeal.Value (head output logits top)

/-! ## Results at an index -/

section Pure

variable {x : FVec Ideal Cert.KernelIdeal.S8x128 .f32} {X : FVec Ideal Cert.ReferenceIdeal.S1x8x128 .f32}
  {W : FVec Ideal Cert.KernelIdeal.S100000x128 .f32} {U : FVec Ideal Cert.ReferenceIdeal.S128x100000 .f32}

/-- The kernel's exponentials are those of the reference's logits. -/
theorem E_logits (hx : ∀ (r : Fin 8) (k : Fin 128), x (ix2 r k) = X (ix3 0 r k))
    (hW : ∀ (n : Fin 100000) (k : Fin 128), W (ix2 n k) = U (ix2 k n)) (r : Fin 8) (j : Fin 100000) :
    E x W r j.val = Ideal.exp (logits X U (ix3 0 r j)) := by
  unfold E
  rw [dif_pos j.isLt, Cert.ReferenceIdeal.Value.logits_at]
  exact congrArg Ideal.exp (Finset.sum_congr rfl fun k _ => congrArg₂ (fun a b : EReal => a * b) (hx r k) (hW j k))

/-- One head's result at an index. -/
theorem prob_head (hx : ∀ (r : Fin 8) (k : Fin 128), x (ix2 r k) = X (ix3 0 r k))
    (hW : ∀ (n : Fin 100000) (k : Fin 128), W (ix2 n k) = U (ix2 k n)) (r : Fin 8) (j : Fin 100000) :
    prob x W r j.val = head X U (ix2 r j) := by
  have hs : ∑ l : Fin 128, laneSum x W r l 8 = ∑ i : Fin 100000, Ideal.exp (logits X U (ix3 0 r i)) := by
    unfold laneSum
    rw [Cert.Softmax.sum_lanes (E x W r) fun n h => E_past r n h]
    exact Finset.sum_congr rfl fun i _ => E_logits hx hW r i
  unfold prob
  rw [hs, E_logits hx hW r j]
  unfold head
  rw [Cert.ReferenceIdeal.Value.again_at]
  simp only [Cert.ReferenceIdeal.Value.share_at, Cert.ReferenceIdeal.Value.expo_at, Cert.ReferenceIdeal.Value.top_at]
  have hm := Cert.Softmax.max_spec fun i : Fin 100000 => (logits X U (ix3 0 r i) : EReal)
  exact Cert.Softmax.quotient (fun i : Fin 100000 => (logits X U (ix3 0 r i) : EReal)) _ hm.1 hm.2 j

end Pure

section Arrays

variable (m : (ℓ : Loc Cert.KernelIdeal.nD Cert.KernelIdeal.τ Cert.KernelIdeal.sig) → Buf (Elt Ideal) ℓ) (c : Dev Cert.KernelIdeal.nD)

/-- A head's result array is the reference's. -/
theorem result_head (W : FVec Ideal Cert.KernelIdeal.S100000x128 .f32) (U : FVec Ideal Cert.KernelIdeal.S128x100000 .f32)
    (hW : ∀ (n : Fin 100000) (k : Fin 128), W (ix2 n k) = U (ix2 k n)) : result m c W = head (xArg m c) U := by
  funext i
  have e : i = ix2 (i 0) (i 1) := by funext a; fin_cases a <;> rfl
  rw [e]
  exact prob_head (rows_at m c) hW (i 0) (i 1)

/-- The shared output at an index is the reference's. -/
theorem shared_output (r : Fin 8) (e : Fin 128) :
    Cert.KernelIdeal.Gen.k0_pay1 (F := Ideal) (rows m c) (shared m c) (ix2 r e) = output (xArg m c) (outArg m c) (ix3 0 r e) := by
  rw [pay1_at, Cert.ReferenceIdeal.Value.output_at, shared_eq]
  exact congrArg Ideal.tanh (Finset.sum_congr rfl fun k _ => congrArg (fun a : EReal => a * outArg m c (ix2 k e)) (rows_at m c r k))

/-- The first result array is the reference's. -/
theorem tail_output : Pipeline.afterTail₀ Cert.KernelIdeal.cfgs (dats m) 0 (Cert.KernelIdeal.Gen.V0 m) [Cert.KernelIdeal.Gen.hostOps1] c Cert.KernelIdeal.main_v0_0
    = output (xArg m c) (outArg m c) := by
  funext i
  have e : i = ix3 0 (i 1) (i 2) := by
    funext a
    fin_cases a
    · exact Fin.ext (by have := (i 0).isLt; show (i 0).val = 0; exact Nat.lt_one_iff.mp this)
    · rfl
    · rfl
  rw [e]
  exact (tail_out m c (i 1) (i 2)).trans (shared_output m c (i 1) (i 2))

end Arrays

/-! ## The runs -/

/-- The kernel ends with the reference's functions of its own arguments, which it leaves unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_0) = output (xArg m c) (outArg m c)
      ∧ r.2.mem ((c.tc : Thread Cert.KernelIdeal.nD Cert.KernelIdeal.τ).loc Cert.KernelIdeal.main_v0_1) = head (xArg m c) (headArg1 m c)
      ∧ r.2.mem ((c.tc : Thread Cert.KernelIdeal.nD Cert.KernelIdeal.τ).loc Cert.KernelIdeal.main_v0_2) = head (xArg m c) (headArg2 m c)
      ∧ r.2.mem ((c.tc : Thread Cert.KernelIdeal.nD Cert.KernelIdeal.τ).loc Cert.KernelIdeal.main_v0_3) = head (xArg m c) (headArg3 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c =>
    ⟨((h c).2 Cert.KernelIdeal.main_v0_0 (Pipeline.mem_restRefs_of Cert.KernelIdeal.main_v0_0 (by decide) (by decide))).trans (tail_output m c),
     ((h c).1 6).trans ((array_6 m c).trans (result_head m c _ _ (head1_at m c))),
     ((h c).1 7).trans ((array_7 m c).trans (result_head m c _ _ (head2_at m c))),
     ((h c).1 8).trans ((array_8 m c).trans (result_head m c _ _ (head3_at m c))),
     ((h c).2 Cert.KernelIdeal.main_arg0 (Pipeline.mem_restRefs_of Cert.KernelIdeal.main_arg0 (by decide) (by decide))).trans (Cert.KernelIdeal.Gen.W_main_arg0 m (dats m) c),
     ((h c).1 1).trans (((dats m 0 c).arrAt_in 1 rfl _).trans (Cert.KernelIdeal.Gen.V_main_arg1 m c)),
     ((h c).2 Cert.KernelIdeal.main_arg2 (Pipeline.mem_restRefs_of Cert.KernelIdeal.main_arg2 (by decide) (by decide))).trans (Cert.KernelIdeal.Gen.W_main_arg2 m (dats m) c),
     ((h c).2 Cert.KernelIdeal.main_arg3 (Pipeline.mem_restRefs_of Cert.KernelIdeal.main_arg3 (by decide) (by decide))).trans (Cert.KernelIdeal.Gen.W_main_arg3 m (dats m) c),
     ((h c).2 Cert.KernelIdeal.main_arg4 (Pipeline.mem_restRefs_of Cert.KernelIdeal.main_arg4 (by decide) (by decide))).trans (Cert.KernelIdeal.Gen.W_main_arg4 m (dats m) c)⟩) (run_arrays m g)

/-- The reference ends with those functions of its arguments, which it leaves unchanged. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v1) = output (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v44) = head (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v48) = head (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v52) = head (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run Cert.ReferenceIdeal.defs _ _).mono (fun _ h => h) (Cert.ReferenceIdeal.Value.run m g)

end Cert.Equal

end
-- ==== Proof.lean ====
/-
  The certificate's proof: the kernel and its ideal form stop with their inputs unchanged and every counter at zero
  (`KernelQuiet`, `Quiet`), and so does the reference; and at exact values the kernel's four results are the reference's
  (`Equal`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelQuiet
public import proofs.«01_k».proof.Proof.Quiet
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference stops with its inputs unchanged; it has no semaphore, so every counter is at zero. -/
theorem reference_quiet : quiescent_ReferenceIdeal (hReferenceIdeal := Cert.ReferenceIdeal.Gen.facts) := fun m g _ =>
  (θ_run _ _ _).mono (fun r h => ⟨fun c => (h c).2.2.2.2, sem_eq_zero_of_no_sems (by decide) r.2⟩) (Cert.ReferenceIdeal.Value.run m g)

/-- The kernel and the reference end with equal results: both end with the reference's functions of the arguments. -/
theorem algebraic : algebraic_KernelIdeal_ReferenceIdeal (hKernelIdeal := Cert.KernelIdeal.Gen.facts) (hReferenceIdeal := Cert.ReferenceIdeal.Gen.facts) :=
  fun m g m' g' _ hagree => by
    refine ⟨_, _, _, _, Cert.Equal.kernel_run m g, (θ_run _ _ _).mono (fun r h c => ?_) (Cert.Equal.reference_run m' g')⟩
    obtain ⟨a0, a1, a2, a3, a4⟩ := hagree c
    obtain ⟨h0, h1, h2, h3, hargs⟩ := h c
    rw [a0, a1] at h0
    rw [a0, a2] at h1
    rw [a0, a3] at h2
    rw [a0, a4] at h3
    exact ⟨h0, h1, h2, h3, hargs⟩

/-- Everything claimed. -/
theorem claim : Cert.Claim := ⟨Cert.Kernel.Gen.facts, Cert.KernelIdeal.Gen.facts, Cert.ReferenceIdeal.Gen.facts,
  fun m g _ => Cert.Kernel.Body.quiet m g, fun m g _ => Cert.KernelIdeal.Body.quiet m g, reference_quiet, trivial, algebraic⟩

end Cert.Proof

end
